-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S32768 : Shape := ⟨1, ![32768]⟩
abbrev S_ : Shape := ⟨0, ![]⟩
abbrev S32768x1 : Shape := ⟨2, ![32768, 1]⟩
abbrev S1x32768 : Shape := ⟨2, ![1, 32768]⟩
abbrev S32768x32768 : Shape := ⟨2, ![32768, 32768]⟩

class Facts : Prop where
  reducesTo_S32768_S_d0 : S32768.ReducesTo [0] S_
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768_S1x32768_1 : S32768.BroadcastsInDim S1x32768 (![1] : Fin 1 → Fin S1x32768.rank)
  bcast_S32768x1_S32768x32768_0_1 : S32768x1.BroadcastsInDim S32768x32768 (![0, 1] : Fin 2 → Fin S32768x32768.rank)
  bcast_S1x32768_S32768x32768_0_1 : S1x32768.BroadcastsInDim S32768x32768 (![0, 1] : Fin 2 → Fin S32768x32768.rank)
  bcast_S_S32768x32768 : S_.BroadcastsInDim S32768x32768 (![] : Fin 0 → Fin S32768x32768.rank)

variable [Facts]

def fn_part1 {F : FTy → Type} [FloatOps F] (main_v7 : FVec F S32768 .f32) (main_v17 : IVec S32768x32768 1) (main_cst_4 : FVec F S_ .f32) : IVec S32768 1 × IVec S32768x32768 1 :=
  let main_v18 : FVec F S32768 .f32 := broadcastInDim S32768 ![] bcast_S_S32768 main_cst_4
  let main_v19 : IVec S32768 1 := cmpf .olt main_v7 main_v18
  let main_cst_5 : FVec F S_ .f32 := constant S_ .f32 0xFF800000#32
  let main_v20 : FVec F S32768 .f32 := broadcastInDim S32768 ![] bcast_S_S32768 main_cst_5
  let main_v21 : IVec S32768 1 := cmpf .ogt main_v7 main_v20
  let main_v22 : IVec S32768 1 := andi main_v19 main_v21
  (main_v22, main_v17)

def fn {F : FTy → Type} [FloatOps F] (main_arg0 : FVec F S32768 .f32) (main_arg1 : IVec S32768 32) : IVec S32768 1 × IVec S32768x32768 1 :=
  let main_cst : FVec F S_ .f32 := constant S_ .f32 0xFF800000#32
  let main_v0 : FVec F S_ .f32 := (fun x v => Host.reduce FloatOps.maximumf x v reducesTo_S32768_S_d0 h_S_) main_arg0 main_cst
  let main_cst_0 : FVec F S_ .f32 := constant S_ .f32 0x7F800000#32
  let main_v1 : FVec F S_ .f32 := (fun x v => Host.reduce FloatOps.minimumf x v reducesTo_S32768_S_d0 h_S_) main_arg0 main_cst_0
  let main_v2 : FVec F S_ .f32 := subf main_v0 main_v1
  let main_cst_1 : FVec F S_ .f32 := constant S_ .f32 0x3F800000#32
  let main_v3 : FVec F S_ .f32 := addf main_v2 main_cst_1
  let main_v4 : FVec F S32768 .f32 := sitofp .f32 main_arg1
  let main_v5 : FVec F S32768 .f32 := broadcastInDim S32768 ![] bcast_S_S32768 main_v3
  let main_v6 : FVec F S32768 .f32 := mulf main_v4 main_v5
  let main_v7 : FVec F S32768 .f32 := addf main_arg0 main_v6
  let main_v8 : FVec F S32768x1 .f32 := broadcastInDim S32768x1 ![0] bcast_S32768_S32768x1_0 main_v7
  let main_v9 : FVec F S1x32768 .f32 := broadcastInDim S1x32768 ![1] bcast_S32768_S1x32768_1 main_v7
  let main_v10 : FVec F S32768x32768 .f32 := broadcastInDim S32768x32768 ![0, 1] bcast_S32768x1_S32768x32768_0_1 main_v8
  let main_v11 : FVec F S32768x32768 .f32 := broadcastInDim S32768x32768 ![0, 1] bcast_S1x32768_S32768x32768_0_1 main_v9
  let main_v12 : FVec F S32768x32768 .f32 := subf main_v10 main_v11
  let main_cst_2 : FVec F S_ .f32 := constant S_ .f32 0x00000000#32
  let main_v13 : FVec F S32768x32768 .f32 := broadcastInDim S32768x32768 ![] bcast_S_S32768x32768 main_cst_2
  let main_v14 : IVec S32768x32768 1 := cmpf .ole main_v12 main_v13
  let main_cst_3 : FVec F S_ .f32 := constant S_ .f32 0x00800000#32
  let main_v15 : FVec F S32768x32768 .f32 := broadcastInDim S32768x32768 ![] bcast_S_S32768x32768 main_cst_3
  let main_v16 : IVec S32768x32768 1 := cmpf .oge main_v12 main_v15
  let main_v17 : IVec S32768x32768 1 := ori main_v14 main_v16
  let main_cst_4 : FVec F S_ .f32 := constant S_ .f32 0x7F800000#32
  fn_part1 (F := F) main_v7 main_v17 main_cst_4
-- ==== Kernel.lean ====
abbrev S32768 : Shape := ⟨1, ![32768]⟩
abbrev S_ : Shape := ⟨0, ![]⟩
abbrev S256x128 : Shape := ⟨2, ![256, 128]⟩
abbrev S128x256 : Shape := ⟨2, ![128, 256]⟩
abbrev S8x128 : Shape := ⟨2, ![8, 128]⟩
abbrev S255x128 : Shape := ⟨2, ![255, 128]⟩
abbrev S1x128 : Shape := ⟨2, ![1, 128]⟩
abbrev S254x128 : Shape := ⟨2, ![254, 128]⟩
abbrev S2x128 : Shape := ⟨2, ![2, 128]⟩
abbrev S252x128 : Shape := ⟨2, ![252, 128]⟩
abbrev S4x128 : Shape := ⟨2, ![4, 128]⟩
abbrev S248x128 : Shape := ⟨2, ![248, 128]⟩
abbrev S240x128 : Shape := ⟨2, ![240, 128]⟩
abbrev S16x128 : Shape := ⟨2, ![16, 128]⟩
abbrev S224x128 : Shape := ⟨2, ![224, 128]⟩
abbrev S32x128 : Shape := ⟨2, ![32, 128]⟩
abbrev S192x128 : Shape := ⟨2, ![192, 128]⟩
abbrev S64x128 : Shape := ⟨2, ![64, 128]⟩
abbrev S128x128 : Shape := ⟨2, ![128, 128]⟩
abbrev S256x127 : Shape := ⟨2, ![256, 127]⟩
abbrev S256x1 : Shape := ⟨2, ![256, 1]⟩
abbrev S256x126 : Shape := ⟨2, ![256, 126]⟩
abbrev S256x2 : Shape := ⟨2, ![256, 2]⟩
abbrev S256x124 : Shape := ⟨2, ![256, 124]⟩
abbrev S256x4 : Shape := ⟨2, ![256, 4]⟩
abbrev S256x120 : Shape := ⟨2, ![256, 120]⟩
abbrev S256x8 : Shape := ⟨2, ![256, 8]⟩
abbrev S256x112 : Shape := ⟨2, ![256, 112]⟩
abbrev S256x16 : Shape := ⟨2, ![256, 16]⟩
abbrev S256x96 : Shape := ⟨2, ![256, 96]⟩
abbrev S256x32 : Shape := ⟨2, ![256, 32]⟩
abbrev S256x64 : Shape := ⟨2, ![256, 64]⟩

abbrev nBuf : Space → Nat
  | .hbm => 19
  | .vmem => 4
  | .smem => 0
  | _ => 0

abbrev bufTy : (tb : Table) → Fin (tcTables nBuf tb) → BufTy
  | .hbm, ⟨0, _⟩ => ⟨S32768, .f32⟩
  | .hbm, ⟨1, _⟩ => ⟨S32768, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768, .f32⟩
  | .hbm, ⟨12, _⟩ => ⟨S32768, .f32⟩
  | .hbm, ⟨13, _⟩ => ⟨S256x128, .f32⟩
  | .hbm, ⟨14, _⟩ => ⟨S128x256, .f32⟩
  | .hbm, ⟨15, _⟩ => ⟨S128x256, .i32⟩
  | .hbm, ⟨16, _⟩ => ⟨S32768, .f32⟩
  | .hbm, ⟨17, _⟩ => ⟨S32768, .f32⟩
  | .hbm, ⟨18, _⟩ => ⟨S32768, .i32⟩
  | .local _ .vmem, ⟨0, _⟩ => ⟨S256x128, .f32⟩
  | .local _ .vmem, ⟨1, _⟩ => ⟨S128x256, .f32⟩
  | .local _ .vmem, ⟨2, _⟩ => ⟨S128x256, .i32⟩
  | .local _ .vmem, ⟨3, _⟩ => ⟨S8x128, .f32⟩
  | _, _ => ⟨S32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S32768, .f32⟩
  | .hbm, ⟨1, _⟩ => ⟨S32768, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32768, .f32⟩
  | .hbm, ⟨10, _⟩ => ⟨S32768, .f32⟩
  | .hbm, ⟨11, _⟩ => ⟨S32768, .f32⟩
  | .hbm, ⟨12, _⟩ => ⟨S32768, .f32⟩
  | .hbm, ⟨13, _⟩ => ⟨S32768, .i32⟩
  | .hbm, ⟨14, _⟩ => ⟨S32768, .f32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S32768, .i32⟩
  | .hbm, ⟨23, _⟩ => ⟨S32768x1, .i32⟩
  | .hbm, ⟨24, _⟩ => ⟨S1, .i32⟩
  | .hbm, ⟨25, _⟩ => ⟨S_, .i32⟩
  | .hbm, ⟨26, _⟩ => ⟨S32768x1, .i32⟩
  | .hbm, ⟨27, _⟩ => ⟨S32768x1, .i1⟩
  | .hbm, ⟨28, _⟩ => ⟨S1x1, .i32⟩
  | .hbm, ⟨29, _⟩ => ⟨S32768x1, .i32⟩
  | .hbm, ⟨30, _⟩ => ⟨S32768x1, .i1⟩
  | .hbm, ⟨31, _⟩ => ⟨S32768x1, .i1⟩
  | .hbm, ⟨32, _⟩ => ⟨S_, .i1⟩
  | .hbm, ⟨33, _⟩ => ⟨S32768, .i1⟩
  | .hbm, ⟨34, _⟩ => ⟨S32768, .f32⟩
  | .hbm, ⟨35, _⟩ => ⟨S_, .f32⟩
  | .hbm, ⟨36, _⟩ => ⟨S32768, .f32⟩
  | .hbm, ⟨37, _⟩ => ⟨S32768, .f32⟩
  | .hbm, ⟨38, _⟩ => ⟨S32768, .f32⟩
  | _, _ => ⟨S32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1_0 : Ref sig .tc := ⟨.hbm, 14, rfl⟩
abbrev main_v8 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_cst : Ref sig .tc := ⟨.hbm, 35, rfl⟩
abbrev main_call1_v14 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]
-- ==== Proof.Stage.lean ====
/-
  One exchange of the sorting network as the kernel computes it, and the whole network as a fold over the
  list of exchanges. A state is the pair of the value array and the array of original positions. An exchange
  `(l, s)` belongs to level `l` (blocks of `2 ^ (l + 1)` positions) and pairs positions that differ in bit `s`.
  Bits 0 … 7 of a position are its row, bits 8 … 14 its column.
-/
module

public import proofs.«01_k».proof.Proof.Gen.KernelIdeal

@[expose] public section

noncomputable section

namespace Cert.Own

open Idealize.ShloMosaic Idealize.SL.Sem Cert.KernelIdeal Cert.KernelIdeal.Facts₀

variable {F : FTy → Type} [FloatOps F]

/-- Where the row number has no bit of `w`. -/
def rowClear (w : BitVec 32) : IVec S256x128 1 :=
  cmpi .eq (andi (iota .tc S256x128 32 [0] iota_S256x128_d0_w32) (broadcast S256x128 w)) (broadcast S256x128 0#32)

/-- Where the column number has no bit of `w`. -/
def colClear (w : BitVec 32) : IVec S256x128 1 :=
  cmpi .eq (andi (iota .tc S256x128 32 [1] iota_S256x128_d1_w32) (broadcast S256x128 w)) (broadcast S256x128 0#32)

/-- Where bit `s` of the position is clear. -/
def clear : Nat → IVec S256x128 1
  | 0 => rowClear 1#32
  | 1 => rowClear 2#32
  | 2 => rowClear 4#32
  | 3 => rowClear 8#32
  | 4 => rowClear 16#32
  | 5 => rowClear 32#32
  | 6 => rowClear 64#32
  | 7 => rowClear 128#32
  | 8 => colClear 1#32
  | 9 => colClear 2#32
  | 10 => colClear 4#32
  | 11 => colClear 8#32
  | 12 => colClear 16#32
  | 13 => colClear 32#32
  | 14 => colClear 64#32
  | _ => colClear 128#32

/-- Every position's partner in bit `s`: the array turned forward where the bit is clear, backward elsewhere
    (a turn by half the length is the same both ways). -/
def across (s : Nat) (x : FVec F S256x128 .f32) : FVec F S256x128 .f32 :=
  match s with
  | 0 => select (clear 0)
        (concatenate S256x128 0 [⟨S255x128, extractStridedSlice S255x128 ![1, 0] x slices_S256x128_o1_0_S255x128⟩,
          ⟨S1x128, extractStridedSlice S1x128 ![0, 0] x slices_S256x128_o0_0_S1x128⟩] concatenates_S255x128_S1x128_S256x128_d0)
        (concatenate S256x128 0 [⟨S1x128, extractStridedSlice S1x128 ![255, 0] x slices_S256x128_o255_0_S1x128⟩,
          ⟨S255x128, extractStridedSlice S255x128 ![0, 0] x slices_S256x128_o0_0_S255x128⟩] concatenates_S1x128_S255x128_S256x128_d0)
  | 1 => select (clear 1)
        (concatenate S256x128 0 [⟨S254x128, extractStridedSlice S254x128 ![2, 0] x slices_S256x128_o2_0_S254x128⟩,
          ⟨S2x128, extractStridedSlice S2x128 ![0, 0] x slices_S256x128_o0_0_S2x128⟩] concatenates_S254x128_S2x128_S256x128_d0)
        (concatenate S256x128 0 [⟨S2x128, extractStridedSlice S2x128 ![254, 0] x slices_S256x128_o254_0_S2x128⟩,
          ⟨S254x128, extractStridedSlice S254x128 ![0, 0] x slices_S256x128_o0_0_S254x128⟩] concatenates_S2x128_S254x128_S256x128_d0)
  | 2 => select (clear 2)
        (concatenate S256x128 0 [⟨S252x128, extractStridedSlice S252x128 ![4, 0] x slices_S256x128_o4_0_S252x128⟩,
          ⟨S4x128, extractStridedSlice S4x128 ![0, 0] x slices_S256x128_o0_0_S4x128⟩] concatenates_S252x128_S4x128_S256x128_d0)
        (concatenate S256x128 0 [⟨S4x128, extractStridedSlice S4x128 ![252, 0] x slices_S256x128_o252_0_S4x128⟩,
          ⟨S252x128, extractStridedSlice S252x128 ![0, 0] x slices_S256x128_o0_0_S252x128⟩] concatenates_S4x128_S252x128_S256x128_d0)
  | 3 => select (clear 3)
        (concatenate S256x128 0 [⟨S248x128, extractStridedSlice S248x128 ![8, 0] x slices_S256x128_o8_0_S248x128⟩,
          ⟨S8x128, extractStridedSlice S8x128 ![0, 0] x slices_S256x128_o0_0_S8x128⟩] concatenates_S248x128_S8x128_S256x128_d0)
        (concatenate S256x128 0 [⟨S8x128, extractStridedSlice S8x128 ![248, 0] x slices_S256x128_o248_0_S8x128⟩,
          ⟨S248x128, extractStridedSlice S248x128 ![0, 0] x slices_S256x128_o0_0_S248x128⟩] concatenates_S8x128_S248x128_S256x128_d0)
  | 4 => select (clear 4)
        (concatenate S256x128 0 [⟨S240x128, extractStridedSlice S240x128 ![16, 0] x slices_S256x128_o16_0_S240x128⟩,
          ⟨S16x128, extractStridedSlice S16x128 ![0, 0] x slices_S256x128_o0_0_S16x128⟩] concatenates_S240x128_S16x128_S256x128_d0)
        (concatenate S256x128 0 [⟨S16x128, extractStridedSlice S16x128 ![240, 0] x slices_S256x128_o240_0_S16x128⟩,
          ⟨S240x128, extractStridedSlice S240x128 ![0, 0] x slices_S256x128_o0_0_S240x128⟩] concatenates_S16x128_S240x128_S256x128_d0)
  | 5 => select (clear 5)
        (concatenate S256x128 0 [⟨S224x128, extractStridedSlice S224x128 ![32, 0] x slices_S256x128_o32_0_S224x128⟩,
          ⟨S32x128, extractStridedSlice S32x128 ![0, 0] x slices_S256x128_o0_0_S32x128⟩] concatenates_S224x128_S32x128_S256x128_d0)
        (concatenate S256x128 0 [⟨S32x128, extractStridedSlice S32x128 ![224, 0] x slices_S256x128_o224_0_S32x128⟩,
          ⟨S224x128, extractStridedSlice S224x128 ![0, 0] x slices_S256x128_o0_0_S224x128⟩] concatenates_S32x128_S224x128_S256x128_d0)
  | 6 => select (clear 6)
        (concatenate S256x128 0 [⟨S192x128, extractStridedSlice S192x128 ![64, 0] x slices_S256x128_o64_0_S192x128⟩,
          ⟨S64x128, extractStridedSlice S64x128 ![0, 0] x slices_S256x128_o0_0_S64x128⟩] concatenates_S192x128_S64x128_S256x128_d0)
        (concatenate S256x128 0 [⟨S64x128, extractStridedSlice S64x128 ![192, 0] x slices_S256x128_o192_0_S64x128⟩,
          ⟨S192x128, extractStridedSlice S192x128 ![0, 0] x slices_S256x128_o0_0_S192x128⟩] concatenates_S64x128_S192x128_S256x128_d0)
  | 7 => concatenate S256x128 0 [⟨S128x128, extractStridedSlice S128x128 ![128, 0] x slices_S256x128_o128_0_S128x128⟩,
          ⟨S128x128, extractStridedSlice S128x128 ![0, 0] x slices_S256x128_o0_0_S128x128⟩] concatenates_S128x128_S128x128_S256x128_d0
  | 8 => select (clear 8)
        (concatenate S256x128 1 [⟨S256x127, extractStridedSlice S256x127 ![0, 1] x slices_S256x128_o0_1_S256x127⟩,
          ⟨S256x1, extractStridedSlice S256x1 ![0, 0] x slices_S256x128_o0_0_S256x1⟩] concatenates_S256x127_S256x1_S256x128_d1)
        (concatenate S256x128 1 [⟨S256x1, extractStridedSlice S256x1 ![0, 127] x slices_S256x128_o0_127_S256x1⟩,
          ⟨S256x127, extractStridedSlice S256x127 ![0, 0] x slices_S256x128_o0_0_S256x127⟩] concatenates_S256x1_S256x127_S256x128_d1)
  | 9 => select (clear 9)
        (concatenate S256x128 1 [⟨S256x126, extractStridedSlice S256x126 ![0, 2] x slices_S256x128_o0_2_S256x126⟩,
          ⟨S256x2, extractStridedSlice S256x2 ![0, 0] x slices_S256x128_o0_0_S256x2⟩] concatenates_S256x126_S256x2_S256x128_d1)
        (concatenate S256x128 1 [⟨S256x2, extractStridedSlice S256x2 ![0, 126] x slices_S256x128_o0_126_S256x2⟩,
          ⟨S256x126, extractStridedSlice S256x126 ![0, 0] x slices_S256x128_o0_0_S256x126⟩] concatenates_S256x2_S256x126_S256x128_d1)
  | 10 => select (clear 10)
        (concatenate S256x128 1 [⟨S256x124, extractStridedSlice S256x124 ![0, 4] x slices_S256x128_o0_4_S256x124⟩,
          ⟨S256x4, extractStridedSlice S256x4 ![0, 0] x slices_S256x128_o0_0_S256x4⟩] concatenates_S256x124_S256x4_S256x128_d1)
        (concatenate S256x128 1 [⟨S256x4, extractStridedSlice S256x4 ![0, 124] x slices_S256x128_o0_124_S256x4⟩,
          ⟨S256x124, extractStridedSlice S256x124 ![0, 0] x slices_S256x128_o0_0_S256x124⟩] concatenates_S256x4_S256x124_S256x128_d1)
  | 11 => select (clear 11)
        (concatenate S256x128 1 [⟨S256x120, extractStridedSlice S256x120 ![0, 8] x slices_S256x128_o0_8_S256x120⟩,
          ⟨S256x8, extractStridedSlice S256x8 ![0, 0] x slices_S256x128_o0_0_S256x8⟩] concatenates_S256x120_S256x8_S256x128_d1)
        (concatenate S256x128 1 [⟨S256x8, extractStridedSlice S256x8 ![0, 120] x slices_S256x128_o0_120_S256x8⟩,
          ⟨S256x120, extractStridedSlice S256x120 ![0, 0] x slices_S256x128_o0_0_S256x120⟩] concatenates_S256x8_S256x120_S256x128_d1)
  | 12 => select (clear 12)
        (concatenate S256x128 1 [⟨S256x112, extractStridedSlice S256x112 ![0, 16] x slices_S256x128_o0_16_S256x112⟩,
          ⟨S256x16, extractStridedSlice S256x16 ![0, 0] x slices_S256x128_o0_0_S256x16⟩] concatenates_S256x112_S256x16_S256x128_d1)
        (concatenate S256x128 1 [⟨S256x16, extractStridedSlice S256x16 ![0, 112] x slices_S256x128_o0_112_S256x16⟩,
          ⟨S256x112, extractStridedSlice S256x112 ![0, 0] x slices_S256x128_o0_0_S256x112⟩] concatenates_S256x16_S256x112_S256x128_d1)
  | 13 => select (clear 13)
        (concatenate S256x128 1 [⟨S256x96, extractStridedSlice S256x96 ![0, 32] x slices_S256x128_o0_32_S256x96⟩,
          ⟨S256x32, extractStridedSlice S256x32 ![0, 0] x slices_S256x128_o0_0_S256x32⟩] concatenates_S256x96_S256x32_S256x128_d1)
        (concatenate S256x128 1 [⟨S256x32, extractStridedSlice S256x32 ![0, 96] x slices_S256x128_o0_96_S256x32⟩,
          ⟨S256x96, extractStridedSlice S256x96 ![0, 0] x slices_S256x128_o0_0_S256x96⟩] concatenates_S256x32_S256x96_S256x128_d1)
  | _ => concatenate S256x128 1 [⟨S256x64, extractStridedSlice S256x64 ![0, 64] x slices_S256x128_o0_64_S256x64⟩,
          ⟨S256x64, extractStridedSlice S256x64 ![0, 0] x slices_S256x128_o0_0_S256x64⟩] concatenates_S256x64_S256x64_S256x128_d1

/-- Where an exchange keeps the smaller entry: its two bits agree. -/
def wantMin (l s : Nat) : IVec S256x128 1 :=
  xori (xori (clear s) (clear (l + 1))) (constantI S256x128 1 1#1)

/-- A constant with a sign: plus where the smaller entry is kept, minus where the greater one is. -/
def signed (l s : Nat) (b : BitVec 32) : FVec F S256x128 .f32 :=
  select (wantMin l s) (broadcast S256x128 (Scalar.ofBits .f32 b))
    (broadcast S256x128 (Scalar.subf (Scalar.ofBits .f32 0x00000000#32) (Scalar.ofBits .f32 b)))

/-- Where an exchange takes the partner's entry. -/
def takes (l s : Nat) (x i : FVec F S256x128 .f32) : IVec S256x128 1 :=
  cmpf .ogt (addf (mulf (subf x (across s x)) (signed l s 0x799A130C#32))
      (mulf (subf i (across s i)) (signed l s 0x322BCC77#32)))
    (broadcast S256x128 (Scalar.ofBits .f32 0x00000000#32))

/-- One exchange on a state. -/
def exchange (p : FVec F S256x128 .f32 × FVec F S256x128 .f32) (e : Nat × Nat) :
    FVec F S256x128 .f32 × FVec F S256x128 .f32 :=
  (select (takes e.1 e.2 p.1 p.2) (across e.2 p.1) p.1, select (takes e.1 e.2 p.1 p.2) (across e.2 p.2) p.2)

/-- The original positions as the kernel writes them at the start: row times 128 plus column. -/
def start : FVec F S256x128 .f32 :=
  sitofp .f32 (addi (muli (iota .tc S256x128 32 [0] iota_S256x128_d0_w32) (broadcast S256x128 128#32))
    (iota .tc S256x128 32 [1] iota_S256x128_d1_w32))

/-- The 120 exchanges in the kernel's order. -/
def exchanges : List (Nat × Nat) :=
   [(0, 0), (1, 1), (1, 0), (2, 2), (2, 1), (2, 0), (3, 3), (3, 2), (3, 1), (3, 0), (4, 4), (4, 3), (4, 2), (4, 1), (4,
    0), (5, 5), (5, 4), (5, 3), (5, 2), (5, 1), (5, 0), (6, 6), (6, 5), (6, 4), (6, 3), (6, 2), (6, 1), (6, 0), (7, 7),
    (7, 6), (7, 5), (7, 4), (7, 3), (7, 2), (7, 1), (7, 0), (8, 8), (8, 7), (8, 6), (8, 5), (8, 4), (8, 3), (8, 2), (8,
    1), (8, 0), (9, 9), (9, 8), (9, 7), (9, 6), (9, 5), (9, 4), (9, 3), (9, 2), (9, 1), (9, 0), (10, 10), (10, 9), (10,
    8), (10, 7), (10, 6), (10, 5), (10, 4), (10, 3), (10, 2), (10, 1), (10, 0), (11, 11), (11, 10), (11, 9), (11, 8), (11,
    7), (11, 6), (11, 5), (11, 4), (11, 3), (11, 2), (11, 1), (11, 0), (12, 12), (12, 11), (12, 10), (12, 9), (12, 8),
    (12, 7), (12, 6), (12, 5), (12, 4), (12, 3), (12, 2), (12, 1), (12, 0), (13, 13), (13, 12), (13, 11), (13, 10), (13,
    9), (13, 8), (13, 7), (13, 6), (13, 5), (13, 4), (13, 3), (13, 2), (13, 1), (13, 0), (14, 14), (14, 13), (14, 12),
    (14, 11), (14, 10), (14, 9), (14, 8), (14, 7), (14, 6), (14, 5), (14, 4), (14, 3), (14, 2), (14, 1), (14, 0)]

/-- The state the network leaves. -/
def final (x : FVec F S256x128 .f32) : FVec F S256x128 .f32 × FVec F S256x128 .f32 :=
  exchanges.foldl exchange (x, start)

/-- The exchanges are those of the bitonic sort of `2 ^ 15` positions, level by level. -/
theorem exchanges_eq :
    exchanges = (List.range 15).flatMap fun l => (List.range (l + 1)).reverse.map fun s => (l, s) := by
  decide +kernel

end Cert.Own

end
-- ==== Proof.Chain.lean ====
/-
  The values the kernel's run names between its parts are states of the network: each is the exchanges of its
  part after the state before.
-/
module

public import proofs.«01_k».proof.Proof.Gen.KernelIdeal.Frame
public import proofs.«01_k».proof.Proof.Stage

@[expose] public section

set_option maxRecDepth 65536

noncomputable section

namespace Cert.Own

open Idealize.ShloMosaic Idealize.ShloMosaic.TcCoe Idealize.ShloMosaic.Tactic Idealize.SL.Sem
open Cert.KernelIdeal Cert.KernelIdeal.Gen

variable {F : FTy → Type} [FloatOps F]

/-- The block as the kernel reads it. -/
def loaded (arg0 : Memref sig .tc .vmem S256x128 .f32) (harg0 : arg0.IsWhole) (x0 : Vec F S256x128 .f32) :
    FVec F S256x128 .f32 :=
  shapeCast S256x128 (arg0.view.readAt (Elt F) (Rect.unit (s := S256x128) ![0, 0] S256x128.size
    inb_S256x128_S256x128_0_0).toLoadRect (harg0.unread x0)) shapeCasts_S256x128_S256x128

section
variable (c : Dev nD) (arg0 : Memref sig .tc .vmem S256x128 .f32) (harg0 : arg0.IsWhole) (x0 : Vec F S256x128 .f32)

theorem state_1 : (kernelRun0_A.sl.r_2 c arg0 harg0 x0, kernelRun0_A.sl.r_3 c arg0 harg0 x0) =
    exchange (loaded arg0 harg0 x0, start) (0, 0) := by
  sl_kernel_rfl

theorem state_3 : (kernelRun0_A.sl.r_7 c arg0 harg0 x0, kernelRun0_A.sl.r_8 c arg0 harg0 x0) =
    exchange (exchange (kernelRun0_A.sl.r_2 c arg0 harg0 x0, kernelRun0_A.sl.r_3 c arg0 harg0 x0) (1, 1)) (1, 0) := by
  sl_kernel_rfl

theorem state_4 : (kernelRun0_A.sl.r_9 c arg0 harg0 x0, kernelRun0_A.sl.r_10 c arg0 harg0 x0) =
    exchange (kernelRun0_A.sl.r_7 c arg0 harg0 x0, kernelRun0_A.sl.r_8 c arg0 harg0 x0) (2, 2) := by
  sl_kernel_rfl

theorem state_6 : (kernelRun0_A.sl.r_15 c arg0 harg0 x0, kernelRun0_A.sl.r_16 c arg0 harg0 x0) =
    exchange (exchange (kernelRun0_A.sl.r_9 c arg0 harg0 x0, kernelRun0_A.sl.r_10 c arg0 harg0 x0) (2, 1)) (2, 0) := by
  sl_kernel_rfl

theorem state_7 : (kernelRun0_A.sl.r_17 c arg0 harg0 x0, kernelRun0_A.sl.r_18 c arg0 harg0 x0) =
    exchange (kernelRun0_A.sl.r_15 c arg0 harg0 x0, kernelRun0_A.sl.r_16 c arg0 harg0 x0) (3, 3) := by
  sl_kernel_rfl

theorem state_9 : (kernelRun0_A.sl.r_22 c arg0 harg0 x0, kernelRun0_A.sl.r_23 c arg0 harg0 x0) =
    exchange (exchange (kernelRun0_A.sl.r_17 c arg0 harg0 x0, kernelRun0_A.sl.r_18 c arg0 harg0 x0) (3, 2)) (3, 1) := by
  sl_kernel_rfl

theorem state_10 : (kernelRun0_A.sl.r_24 c arg0 harg0 x0, kernelRun0_A.sl.r_25 c arg0 harg0 x0) =
    exchange (kernelRun0_A.sl.r_22 c arg0 harg0 x0, kernelRun0_A.sl.r_23 c arg0 harg0 x0) (3, 0) := by
  sl_kernel_rfl

theorem state_12 : (kernelRun0_A.sl.r_28 c arg0 harg0 x0, kernelRun0_A.sl.r_29 c arg0 harg0 x0) =
    exchange (exchange (kernelRun0_A.sl.r_24 c arg0 harg0 x0, kernelRun0_A.sl.r_25 c arg0 harg0 x0) (4, 4)) (4, 3) := by
  sl_kernel_rfl

theorem state_13 : (kernelRun0_A.sl.r_30 c arg0 harg0 x0, kernelRun0_A.sl.r_31 c arg0 harg0 x0) =
    exchange (kernelRun0_A.sl.r_28 c arg0 harg0 x0, kernelRun0_A.sl.r_29 c arg0 harg0 x0) (4, 2) := by
  sl_kernel_rfl

theorem state_14 : (kernelRun0_A.sl.r_33 c arg0 harg0 x0, kernelRun0_A.sl.r_34 c arg0 harg0 x0) =
    exchange (kernelRun0_A.sl.r_30 c arg0 harg0 x0, kernelRun0_A.sl.r_31 c arg0 harg0 x0) (4, 1) := by
  sl_kernel_rfl

theorem state_16 : (kernelRun0_A.sl.r_38 c arg0 harg0 x0, kernelRun0_A.sl.r_39 c arg0 harg0 x0) =
    exchange (exchange (kernelRun0_A.sl.r_33 c arg0 harg0 x0, kernelRun0_A.sl.r_34 c arg0 harg0 x0) (4, 0)) (5, 5) := by
  sl_kernel_rfl

theorem state_17 : (kernelRun0_A.sl.r_40 c arg0 harg0 x0, kernelRun0_A.sl.r_41 c arg0 harg0 x0) =
    exchange (kernelRun0_A.sl.r_38 c arg0 harg0 x0, kernelRun0_A.sl.r_39 c arg0 harg0 x0) (5, 4) := by
  sl_kernel_rfl

theorem state_19 : (kernelRun0_A.sl.r_45 c arg0 harg0 x0, kernelRun0_A.sl.r_46 c arg0 harg0 x0) =
    exchange (exchange (kernelRun0_A.sl.r_40 c arg0 harg0 x0, kernelRun0_A.sl.r_41 c arg0 harg0 x0) (5, 3)) (5, 2) := by
  sl_kernel_rfl

theorem state_20 : (kernelRun0_A.sl.r_47 c arg0 harg0 x0, kernelRun0_A.sl.r_48 c arg0 harg0 x0) =
    exchange (kernelRun0_A.sl.r_45 c arg0 harg0 x0, kernelRun0_A.sl.r_46 c arg0 harg0 x0) (5, 1) := by
  sl_kernel_rfl

theorem state_22 : (kernelRun0_A.sl.r_52 c arg0 harg0 x0, kernelRun0_A.sl.r_53 c arg0 harg0 x0) =
    exchange (exchange (kernelRun0_A.sl.r_47 c arg0 harg0 x0, kernelRun0_A.sl.r_48 c arg0 harg0 x0) (5, 0)) (6, 6) := by
  sl_kernel_rfl

theorem state_23 : (kernelRun0_A.sl.r_54 c arg0 harg0 x0, kernelRun0_A.sl.r_55 c arg0 harg0 x0) =
    exchange (kernelRun0_A.sl.r_52 c arg0 harg0 x0, kernelRun0_A.sl.r_53 c arg0 harg0 x0) (6, 5) := by
  sl_kernel_rfl

theorem state_25 : (kernelRun0_A.sl.r_59 c arg0 harg0 x0, kernelRun0_A.sl.r_60 c arg0 harg0 x0) =
    exchange (exchange (kernelRun0_A.sl.r_54 c arg0 harg0 x0, kernelRun0_A.sl.r_55 c arg0 harg0 x0) (6, 4)) (6, 3) := by
  sl_kernel_rfl

theorem state_26 : (kernelRun0_A.sl.r_61 c arg0 harg0 x0, kernelRun0_A.sl.r_62 c arg0 harg0 x0) =
    exchange (kernelRun0_A.sl.r_59 c arg0 harg0 x0, kernelRun0_A.sl.r_60 c arg0 harg0 x0) (6, 2) := by
  sl_kernel_rfl

theorem state_28 : (kernelRun0_A.sl.r_67 c arg0 harg0 x0, kernelRun0_A.sl.r_68 c arg0 harg0 x0) =
    exchange (exchange (kernelRun0_A.sl.r_61 c arg0 harg0 x0, kernelRun0_A.sl.r_62 c arg0 harg0 x0) (6, 1)) (6, 0) := by
  sl_kernel_rfl

theorem state_29 : (kernelRun0_A.sl.r_69 c arg0 harg0 x0, kernelRun0_A.sl.r_70 c arg0 harg0 x0) =
    exchange (kernelRun0_A.sl.r_67 c arg0 harg0 x0, kernelRun0_A.sl.r_68 c arg0 harg0 x0) (7, 7) := by
  sl_kernel_rfl

theorem state_31 : (kernelRun0_A.sl.r_74 c arg0 harg0 x0, kernelRun0_A.sl.r_75 c arg0 harg0 x0) =
    exchange (exchange (kernelRun0_A.sl.r_69 c arg0 harg0 x0, kernelRun0_A.sl.r_70 c arg0 harg0 x0) (7, 6)) (7, 5) := by
  sl_kernel_rfl

theorem state_32 : (kernelRun0_A.sl.r_76 c arg0 harg0 x0, kernelRun0_A.sl.r_77 c arg0 harg0 x0) =
    exchange (kernelRun0_A.sl.r_74 c arg0 harg0 x0, kernelRun0_A.sl.r_75 c arg0 harg0 x0) (7, 4) := by
  sl_kernel_rfl

theorem state_34 : (kernelRun0_A.sl.r_82 c arg0 harg0 x0, kernelRun0_A.sl.r_83 c arg0 harg0 x0) =
    exchange (exchange (kernelRun0_A.sl.r_76 c arg0 harg0 x0, kernelRun0_A.sl.r_77 c arg0 harg0 x0) (7, 3)) (7, 2) := by
  sl_kernel_rfl

theorem state_35 : (kernelRun0_A.sl.r_84 c arg0 harg0 x0, kernelRun0_A.sl.r_85 c arg0 harg0 x0) =
    exchange (kernelRun0_A.sl.r_82 c arg0 harg0 x0, kernelRun0_A.sl.r_83 c arg0 harg0 x0) (7, 1) := by
  sl_kernel_rfl

theorem state_37 : (kernelRun0_A.sl.r_89 c arg0 harg0 x0, kernelRun0_A.sl.r_90 c arg0 harg0 x0) =
    exchange (exchange (kernelRun0_A.sl.r_84 c arg0 harg0 x0, kernelRun0_A.sl.r_85 c arg0 harg0 x0) (7, 0)) (8, 8) := by
  sl_kernel_rfl

theorem state_38 : (kernelRun0_A.sl.r_91 c arg0 harg0 x0, kernelRun0_A.sl.r_92 c arg0 harg0 x0) =
    exchange (kernelRun0_A.sl.r_89 c arg0 harg0 x0, kernelRun0_A.sl.r_90 c arg0 harg0 x0) (8, 7) := by
  sl_kernel_rfl

theorem state_40 : (kernelRun0_A.sl.r_97 c arg0 harg0 x0, kernelRun0_A.sl.r_98 c arg0 harg0 x0) =
    exchange (exchange (kernelRun0_A.sl.r_91 c arg0 harg0 x0, kernelRun0_A.sl.r_92 c arg0 harg0 x0) (8, 6)) (8, 5) := by
  sl_kernel_rfl

theorem state_41 : (kernelRun0_A.sl.r_99 c arg0 harg0 x0, kernelRun0_A.sl.r_100 c arg0 harg0 x0) =
    exchange (kernelRun0_A.sl.r_97 c arg0 harg0 x0, kernelRun0_A.sl.r_98 c arg0 harg0 x0) (8, 4) := by
  sl_kernel_rfl

theorem state_43 : (kernelRun0_A.sl.r_108 c arg0 harg0 x0, kernelRun0_A.sl.r_109 c arg0 harg0 x0) =
    exchange (exchange (kernelRun0_A.sl.r_99 c arg0 harg0 x0, kernelRun0_A.sl.r_100 c arg0 harg0 x0) (8, 3)) (8, 2) := by
  sl_kernel_rfl

theorem state_44 : (kernelRun0_A.sl.r_110 c arg0 harg0 x0, kernelRun0_A.sl.r_111 c arg0 harg0 x0) =
    exchange (kernelRun0_A.sl.r_108 c arg0 harg0 x0, kernelRun0_A.sl.r_109 c arg0 harg0 x0) (8, 1) := by
  sl_kernel_rfl

theorem state_46 : (kernelRun0_A.sl.r_118 c arg0 harg0 x0, kernelRun0_A.sl.r_119 c arg0 harg0 x0) =
    exchange (exchange (kernelRun0_A.sl.r_110 c arg0 harg0 x0, kernelRun0_A.sl.r_111 c arg0 harg0 x0) (8, 0)) (9, 9) := by
  sl_kernel_rfl

theorem state_47 : (kernelRun0_A.sl.r_120 c arg0 harg0 x0, kernelRun0_A.sl.r_121 c arg0 harg0 x0) =
    exchange (kernelRun0_A.sl.r_118 c arg0 harg0 x0, kernelRun0_A.sl.r_119 c arg0 harg0 x0) (9, 8) := by
  sl_kernel_rfl

theorem state_49 : (kernelRun0_A.sl.r_127 c arg0 harg0 x0, kernelRun0_A.sl.r_128 c arg0 harg0 x0) =
    exchange (exchange (kernelRun0_A.sl.r_120 c arg0 harg0 x0, kernelRun0_A.sl.r_121 c arg0 harg0 x0) (9, 7)) (9, 6) := by
  sl_kernel_rfl

theorem state_50 : (kernelRun0_A.sl.r_129 c arg0 harg0 x0, kernelRun0_A.sl.r_130 c arg0 harg0 x0) =
    exchange (kernelRun0_A.sl.r_127 c arg0 harg0 x0, kernelRun0_A.sl.r_128 c arg0 harg0 x0) (9, 5) := by
  sl_kernel_rfl

theorem state_52 : (kernelRun0_A.sl.r_137 c arg0 harg0 x0, kernelRun0_A.sl.r_138 c arg0 harg0 x0) =
    exchange (exchange (kernelRun0_A.sl.r_129 c arg0 harg0 x0, kernelRun0_A.sl.r_130 c arg0 harg0 x0) (9, 4)) (9, 3) := by
  sl_kernel_rfl

theorem state_53 : (kernelRun0_A.sl.r_139 c arg0 harg0 x0, kernelRun0_A.sl.r_140 c arg0 harg0 x0) =
    exchange (kernelRun0_A.sl.r_137 c arg0 harg0 x0, kernelRun0_A.sl.r_138 c arg0 harg0 x0) (9, 2) := by
  sl_kernel_rfl

theorem state_55 : (kernelRun0_A.sl.r_146 c arg0 harg0 x0, kernelRun0_A.sl.r_147 c arg0 harg0 x0) =
    exchange (exchange (kernelRun0_A.sl.r_139 c arg0 harg0 x0, kernelRun0_A.sl.r_140 c arg0 harg0 x0) (9, 1)) (9, 0) := by
  sl_kernel_rfl

theorem state_56 : (kernelRun0_A.sl.r_148 c arg0 harg0 x0, kernelRun0_A.sl.r_149 c arg0 harg0 x0) =
    exchange (kernelRun0_A.sl.r_146 c arg0 harg0 x0, kernelRun0_A.sl.r_147 c arg0 harg0 x0) (10, 10) := by
  sl_kernel_rfl

theorem state_59 : (kernelRun0_A.sl.r_158 c arg0 harg0 x0, kernelRun0_A.sl.r_159 c arg0 harg0 x0) =
    exchange (exchange (exchange (kernelRun0_A.sl.r_148 c arg0 harg0 x0, kernelRun0_A.sl.r_149 c arg0 harg0 x0) (10, 9)) (10, 8)) (10, 7) := by
  sl_kernel_rfl

theorem state_61 : (kernelRun0_A.sl.r_165 c arg0 harg0 x0, kernelRun0_A.sl.r_166 c arg0 harg0 x0) =
    exchange (exchange (kernelRun0_A.sl.r_158 c arg0 harg0 x0, kernelRun0_A.sl.r_159 c arg0 harg0 x0) (10, 6)) (10, 5) := by
  sl_kernel_rfl

theorem state_62 : (kernelRun0_A.sl.r_167 c arg0 harg0 x0, kernelRun0_A.sl.r_168 c arg0 harg0 x0) =
    exchange (kernelRun0_A.sl.r_165 c arg0 harg0 x0, kernelRun0_A.sl.r_166 c arg0 harg0 x0) (10, 4) := by
  sl_kernel_rfl

theorem state_64 : (kernelRun0_A.sl.r_173 c arg0 harg0 x0, kernelRun0_A.sl.r_174 c arg0 harg0 x0) =
    exchange (exchange (kernelRun0_A.sl.r_167 c arg0 harg0 x0, kernelRun0_A.sl.r_168 c arg0 harg0 x0) (10, 3)) (10, 2) := by
  sl_kernel_rfl

theorem state_65 : (kernelRun0_A.sl.r_175 c arg0 harg0 x0, kernelRun0_A.sl.r_176 c arg0 harg0 x0) =
    exchange (kernelRun0_A.sl.r_173 c arg0 harg0 x0, kernelRun0_A.sl.r_174 c arg0 harg0 x0) (10, 1) := by
  sl_kernel_rfl

theorem state_66 : (kernelRun0_A.sl.r_180 c arg0 harg0 x0, kernelRun0_A.sl.r_181 c arg0 harg0 x0) =
    exchange (kernelRun0_A.sl.r_175 c arg0 harg0 x0, kernelRun0_A.sl.r_176 c arg0 harg0 x0) (10, 0) := by
  sl_kernel_rfl

theorem state_68 : (kernelRun0_A.sl.r_185 c arg0 harg0 x0, kernelRun0_A.sl.r_186 c arg0 harg0 x0) =
    exchange (exchange (kernelRun0_A.sl.r_180 c arg0 harg0 x0, kernelRun0_A.sl.r_181 c arg0 harg0 x0) (11, 11)) (11, 10) := by
  sl_kernel_rfl

theorem state_69 : (kernelRun0_A.sl.r_189 c arg0 harg0 x0, kernelRun0_A.sl.r_190 c arg0 harg0 x0) =
    exchange (kernelRun0_A.sl.r_185 c arg0 harg0 x0, kernelRun0_A.sl.r_186 c arg0 harg0 x0) (11, 9) := by
  sl_kernel_rfl

theorem state_71 : (kernelRun0_A.sl.r_194 c arg0 harg0 x0, kernelRun0_A.sl.r_195 c arg0 harg0 x0) =
    exchange (exchange (kernelRun0_A.sl.r_189 c arg0 harg0 x0, kernelRun0_A.sl.r_190 c arg0 harg0 x0) (11, 8)) (11, 7) := by
  sl_kernel_rfl

theorem state_73 : (kernelRun0_A.sl.r_201 c arg0 harg0 x0, kernelRun0_A.sl.r_202 c arg0 harg0 x0) =
    exchange (exchange (kernelRun0_A.sl.r_194 c arg0 harg0 x0, kernelRun0_A.sl.r_195 c arg0 harg0 x0) (11, 6)) (11, 5) := by
  sl_kernel_rfl

theorem state_74 : (kernelRun0_A.sl.r_203 c arg0 harg0 x0, kernelRun0_A.sl.r_204 c arg0 harg0 x0) =
    exchange (kernelRun0_A.sl.r_201 c arg0 harg0 x0, kernelRun0_A.sl.r_202 c arg0 harg0 x0) (11, 4) := by
  sl_kernel_rfl

theorem state_75 : (kernelRun0_A.sl.r_209 c arg0 harg0 x0, kernelRun0_A.sl.r_210 c arg0 harg0 x0) =
    exchange (kernelRun0_A.sl.r_203 c arg0 harg0 x0, kernelRun0_A.sl.r_204 c arg0 harg0 x0) (11, 3) := by
  sl_kernel_rfl

theorem state_77 : (kernelRun0_A.sl.r_214 c arg0 harg0 x0, kernelRun0_A.sl.r_215 c arg0 harg0 x0) =
    exchange (exchange (kernelRun0_A.sl.r_209 c arg0 harg0 x0, kernelRun0_A.sl.r_210 c arg0 harg0 x0) (11, 2)) (11, 1) := by
  sl_kernel_rfl

theorem state_78 : (kernelRun0_A.sl.r_217 c arg0 harg0 x0, kernelRun0_A.sl.r_218 c arg0 harg0 x0) =
    exchange (kernelRun0_A.sl.r_214 c arg0 harg0 x0, kernelRun0_A.sl.r_215 c arg0 harg0 x0) (11, 0) := by
  sl_kernel_rfl

theorem state_80 : (kernelRun0_A.sl.r_223 c arg0 harg0 x0, kernelRun0_A.sl.r_224 c arg0 harg0 x0) =
    exchange (exchange (kernelRun0_A.sl.r_217 c arg0 harg0 x0, kernelRun0_A.sl.r_218 c arg0 harg0 x0) (12, 12)) (12, 11) := by
  sl_kernel_rfl

theorem state_81 : (kernelRun0_A.sl.r_226 c arg0 harg0 x0, kernelRun0_A.sl.r_227 c arg0 harg0 x0) =
    exchange (kernelRun0_A.sl.r_223 c arg0 harg0 x0, kernelRun0_A.sl.r_224 c arg0 harg0 x0) (12, 10) := by
  sl_kernel_rfl

theorem state_83 : (kernelRun0_A.sl.r_233 c arg0 harg0 x0, kernelRun0_A.sl.r_234 c arg0 harg0 x0) =
    exchange (exchange (kernelRun0_A.sl.r_226 c arg0 harg0 x0, kernelRun0_A.sl.r_227 c arg0 harg0 x0) (12, 9)) (12, 8) := by
  sl_kernel_rfl

theorem state_84 : (kernelRun0_A.sl.r_236 c arg0 harg0 x0, kernelRun0_A.sl.r_237 c arg0 harg0 x0) =
    exchange (kernelRun0_A.sl.r_233 c arg0 harg0 x0, kernelRun0_A.sl.r_234 c arg0 harg0 x0) (12, 7) := by
  sl_kernel_rfl

theorem state_86 : (kernelRun0_A.sl.r_241 c arg0 harg0 x0, kernelRun0_A.sl.r_242 c arg0 harg0 x0) =
    exchange (exchange (kernelRun0_A.sl.r_236 c arg0 harg0 x0, kernelRun0_A.sl.r_237 c arg0 harg0 x0) (12, 6)) (12, 5) := by
  sl_kernel_rfl

theorem state_87 : (kernelRun0_A.sl.r_244 c arg0 harg0 x0, kernelRun0_A.sl.r_245 c arg0 harg0 x0) =
    exchange (kernelRun0_A.sl.r_241 c arg0 harg0 x0, kernelRun0_A.sl.r_242 c arg0 harg0 x0) (12, 4) := by
  sl_kernel_rfl

theorem state_89 : (kernelRun0_A.sl.r_251 c arg0 harg0 x0, kernelRun0_A.sl.r_252 c arg0 harg0 x0) =
    exchange (exchange (kernelRun0_A.sl.r_244 c arg0 harg0 x0, kernelRun0_A.sl.r_245 c arg0 harg0 x0) (12, 3)) (12, 2) := by
  sl_kernel_rfl

theorem state_90 : (kernelRun0_A.sl.r_254 c arg0 harg0 x0, kernelRun0_A.sl.r_255 c arg0 harg0 x0) =
    exchange (kernelRun0_A.sl.r_251 c arg0 harg0 x0, kernelRun0_A.sl.r_252 c arg0 harg0 x0) (12, 1) := by
  sl_kernel_rfl

theorem state_92 : (kernelRun0_A.sl.r_260 c arg0 harg0 x0, kernelRun0_A.sl.r_261 c arg0 harg0 x0) =
    exchange (exchange (kernelRun0_A.sl.r_254 c arg0 harg0 x0, kernelRun0_A.sl.r_255 c arg0 harg0 x0) (12, 0)) (13, 13) := by
  sl_kernel_rfl

theorem state_93 : (kernelRun0_A.sl.r_262 c arg0 harg0 x0, kernelRun0_A.sl.r_263 c arg0 harg0 x0) =
    exchange (kernelRun0_A.sl.r_260 c arg0 harg0 x0, kernelRun0_A.sl.r_261 c arg0 harg0 x0) (13, 12) := by
  sl_kernel_rfl

theorem state_95 : (kernelRun0_A.sl.r_271 c arg0 harg0 x0, kernelRun0_A.sl.r_272 c arg0 harg0 x0) =
    exchange (exchange (kernelRun0_A.sl.r_262 c arg0 harg0 x0, kernelRun0_A.sl.r_263 c arg0 harg0 x0) (13, 11)) (13, 10) := by
  sl_kernel_rfl

theorem state_96 : (kernelRun0_A.sl.r_273 c arg0 harg0 x0, kernelRun0_A.sl.r_274 c arg0 harg0 x0) =
    exchange (kernelRun0_A.sl.r_271 c arg0 harg0 x0, kernelRun0_A.sl.r_272 c arg0 harg0 x0) (13, 9) := by
  sl_kernel_rfl

theorem state_98 : (kernelRun0_A.sl.r_281 c arg0 harg0 x0, kernelRun0_A.sl.r_282 c arg0 harg0 x0) =
    exchange (exchange (kernelRun0_A.sl.r_273 c arg0 harg0 x0, kernelRun0_A.sl.r_274 c arg0 harg0 x0) (13, 8)) (13, 7) := by
  sl_kernel_rfl

theorem state_99 : (kernelRun0_A.sl.r_284 c arg0 harg0 x0, kernelRun0_A.sl.r_285 c arg0 harg0 x0) =
    exchange (kernelRun0_A.sl.r_281 c arg0 harg0 x0, kernelRun0_A.sl.r_282 c arg0 harg0 x0) (13, 6) := by
  sl_kernel_rfl

theorem state_101 : (kernelRun0_A.sl.r_291 c arg0 harg0 x0, kernelRun0_A.sl.r_292 c arg0 harg0 x0) =
    exchange (exchange (kernelRun0_A.sl.r_284 c arg0 harg0 x0, kernelRun0_A.sl.r_285 c arg0 harg0 x0) (13, 5)) (13, 4) := by
  sl_kernel_rfl

theorem state_102 : (kernelRun0_A.sl.r_293 c arg0 harg0 x0, kernelRun0_A.sl.r_294 c arg0 harg0 x0) =
    exchange (kernelRun0_A.sl.r_291 c arg0 harg0 x0, kernelRun0_A.sl.r_292 c arg0 harg0 x0) (13, 3) := by
  sl_kernel_rfl

theorem state_104 : (kernelRun0_A.sl.r_301 c arg0 harg0 x0, kernelRun0_A.sl.r_302 c arg0 harg0 x0) =
    exchange (exchange (kernelRun0_A.sl.r_293 c arg0 harg0 x0, kernelRun0_A.sl.r_294 c arg0 harg0 x0) (13, 2)) (13, 1) := by
  sl_kernel_rfl

theorem state_105 : (kernelRun0_A.sl.r_303 c arg0 harg0 x0, kernelRun0_A.sl.r_304 c arg0 harg0 x0) =
    exchange (kernelRun0_A.sl.r_301 c arg0 harg0 x0, kernelRun0_A.sl.r_302 c arg0 harg0 x0) (13, 0) := by
  sl_kernel_rfl

theorem state_107 : (kernelRun0_A.sl.r_310 c arg0 harg0 x0, kernelRun0_A.sl.r_311 c arg0 harg0 x0) =
    exchange (exchange (kernelRun0_A.sl.r_303 c arg0 harg0 x0, kernelRun0_A.sl.r_304 c arg0 harg0 x0) (14, 14)) (14, 13) := by
  sl_kernel_rfl

theorem state_108 : (kernelRun0_A.sl.r_313 c arg0 harg0 x0, kernelRun0_A.sl.r_314 c arg0 harg0 x0) =
    exchange (kernelRun0_A.sl.r_310 c arg0 harg0 x0, kernelRun0_A.sl.r_311 c arg0 harg0 x0) (14, 12) := by
  sl_kernel_rfl

theorem state_110 : (kernelRun0_A.sl.r_321 c arg0 harg0 x0, kernelRun0_A.sl.r_322 c arg0 harg0 x0) =
    exchange (exchange (kernelRun0_A.sl.r_313 c arg0 harg0 x0, kernelRun0_A.sl.r_314 c arg0 harg0 x0) (14, 11)) (14, 10) := by
  sl_kernel_rfl

theorem state_111 : (kernelRun0_A.sl.r_323 c arg0 harg0 x0, kernelRun0_A.sl.r_324 c arg0 harg0 x0) =
    exchange (kernelRun0_A.sl.r_321 c arg0 harg0 x0, kernelRun0_A.sl.r_322 c arg0 harg0 x0) (14, 9) := by
  sl_kernel_rfl

theorem state_113 : (kernelRun0_A.sl.r_330 c arg0 harg0 x0, kernelRun0_A.sl.r_331 c arg0 harg0 x0) =
    exchange (exchange (kernelRun0_A.sl.r_323 c arg0 harg0 x0, kernelRun0_A.sl.r_324 c arg0 harg0 x0) (14, 8)) (14, 7) := by
  sl_kernel_rfl

theorem state_114 : (kernelRun0_A.sl.r_333 c arg0 harg0 x0, kernelRun0_A.sl.r_334 c arg0 harg0 x0) =
    exchange (kernelRun0_A.sl.r_330 c arg0 harg0 x0, kernelRun0_A.sl.r_331 c arg0 harg0 x0) (14, 6) := by
  sl_kernel_rfl

theorem state_116 : (kernelRun0_A.sl.r_339 c arg0 harg0 x0, kernelRun0_A.sl.r_340 c arg0 harg0 x0) =
    exchange (exchange (kernelRun0_A.sl.r_333 c arg0 harg0 x0, kernelRun0_A.sl.r_334 c arg0 harg0 x0) (14, 5)) (14, 4) := by
  sl_kernel_rfl

theorem state_117 : (kernelRun0_A.sl.r_341 c arg0 harg0 x0, kernelRun0_A.sl.r_342 c arg0 harg0 x0) =
    exchange (kernelRun0_A.sl.r_339 c arg0 harg0 x0, kernelRun0_A.sl.r_340 c arg0 harg0 x0) (14, 3) := by
  sl_kernel_rfl

theorem state_119 : (kernelRun0_A.sl.r_350 c arg0 harg0 x0, kernelRun0_A.sl.r_351 c arg0 harg0 x0) =
    exchange (exchange (kernelRun0_A.sl.r_341 c arg0 harg0 x0, kernelRun0_A.sl.r_342 c arg0 harg0 x0) (14, 2)) (14, 1) := by
  sl_kernel_rfl

/-- The state the network leaves is the last exchange after the last named state. -/
theorem final_eq : final (loaded arg0 harg0 x0) =
    exchange (kernelRun0_A.sl.r_350 c arg0 harg0 x0, kernelRun0_A.sl.r_351 c arg0 harg0 x0) (14, 0) := by
  unfold final exchanges
  simp only [List.foldl_cons, List.foldl_nil]
  rw [← state_1 c, ← state_3 c, ← state_4 c, ← state_6 c, ← state_7 c, ← state_9 c, ← state_10 c, ← state_12 c, ←
    state_13 c, ← state_14 c, ← state_16 c, ← state_17 c, ← state_19 c, ← state_20 c, ← state_22 c, ← state_23 c, ←
    state_25 c, ← state_26 c, ← state_28 c, ← state_29 c, ← state_31 c, ← state_32 c, ← state_34 c, ← state_35 c, ←
    state_37 c, ← state_38 c, ← state_40 c, ← state_41 c, ← state_43 c, ← state_44 c, ← state_46 c, ← state_47 c, ←
    state_49 c, ← state_50 c, ← state_52 c, ← state_53 c, ← state_55 c, ← state_56 c, ← state_59 c, ← state_61 c, ←
    state_62 c, ← state_64 c, ← state_65 c, ← state_66 c, ← state_68 c, ← state_69 c, ← state_71 c, ← state_73 c, ←
    state_74 c, ← state_75 c, ← state_77 c, ← state_78 c, ← state_80 c, ← state_81 c, ← state_83 c, ← state_84 c, ←
    state_86 c, ← state_87 c, ← state_89 c, ← state_90 c, ← state_92 c, ← state_93 c, ← state_95 c, ← state_96 c, ←
    state_98 c, ← state_99 c, ← state_101 c, ← state_102 c, ← state_104 c, ← state_105 c, ← state_107 c, ← state_108
    c, ← state_110 c, ← state_111 c, ← state_113 c, ← state_114 c, ← state_116 c, ← state_117 c, ← state_119 c]

/-- The pieces stored in the first result. -/
theorem pieces_values (arg1 : Memref sig .tc .vmem S128x256 .f32) (harg1 : arg1.IsWhole) (arg2 : Memref sig .tc .vmem S128x256 .i32)
    (harg2 : arg2.IsWhole) (arg3 : Memref sig .tc .vmem S8x128 .f32) (harg3 : arg3.IsWhole) :
    (kernelRun0_A c arg0 harg0 arg1 harg1 arg2 harg2 arg3 harg3 x0).1 =
      [⟨Rect.unit (s := S128x256) ![0, 0] S128x256.size inb_S128x256_S128x256_0_0,
        transpose S128x256 [1, 0] (final (loaded arg0 harg0 x0)).1 transposes_S256x128_p1_0_S128x256⟩] := by
  rw [final_eq c]
  sl_kernel_rfl

/-- The pieces stored in the second result. -/
theorem pieces_positions (arg1 : Memref sig .tc .vmem S128x256 .f32) (harg1 : arg1.IsWhole) (arg2 : Memref sig .tc .vmem S128x256 .i32)
    (harg2 : arg2.IsWhole) (arg3 : Memref sig .tc .vmem S8x128 .f32) (harg3 : arg3.IsWhole) :
    (kernelRun0_A c arg0 harg0 arg1 harg1 arg2 harg2 arg3 harg3 x0).2.1 =
      [⟨Rect.unit (s := S128x256) ![0, 0] S128x256.size inb_S128x256_S128x256_0_0,
        fptosi 32 (transpose S128x256 [1, 0] (final (loaded arg0 harg0 x0)).2 transposes_S256x128_p1_0_S128x256)⟩] := by
  rw [final_eq c]
  sl_kernel_rfl

end

end Cert.Own

end
-- ==== Proof.Outputs.lean ====
/-
  What the run leaves in the two results' buffers, from the block read: the network's state, transposed.
-/
module

public import Idealize.ShloMosaic.Lib.Pointwise
public import Idealize.ShloMosaic.Lib.VecWindow
public import proofs.«01_k».proof.Proof.Chain

@[expose] public section

noncomputable section

namespace Cert.Own

open Idealize.ShloMosaic Idealize.ShloMosaic.TcCoe Idealize.ShloMosaic.Tactic Idealize.SL.Sem
open Cert.KernelIdeal Cert.KernelIdeal.Gen

variable {F : FTy → Type} [FloatOps F]

variable (c : Dev nD) (arg0 : Memref sig .tc .vmem S256x128 .f32) (harg0 : arg0.IsWhole) (x0 : Vec F S256x128 .f32)

/-- The block as read is the block. -/
theorem loaded_eq : loaded arg0 harg0 x0 = x0 := by
  unfold loaded
  rw [View.readAt_full, harg0.read_unread]
  exact Idealize.ShloMosaic.shapeCast_id x0 _

variable (arg1 : Memref sig .tc .vmem S128x256 .f32) (harg1 : arg1.IsWhole) (arg2 : Memref sig .tc .vmem S128x256 .i32)
  (harg2 : arg2.IsWhole) (arg3 : Memref sig .tc .vmem S8x128 .f32) (harg3 : arg3.IsWhole)

/-- The first result's buffer. -/
theorem out_values : out0_A_1 c arg0 harg0 arg1 harg1 arg2 harg2 arg3 harg3 x0 =
    transpose S128x256 [1, 0] (final x0).1 transposes_S256x128_p1_0_S128x256 := by
  unfold out0_A_1
  rw [pieces_values, View.read_writes_full, loaded_eq]

/-- The second result's buffer. -/
theorem out_positions : out0_A_2 c arg0 harg0 arg1 harg1 arg2 harg2 arg3 harg3 x0 =
    fptosi 32 (transpose S128x256 [1, 0] (final x0).2 transposes_S256x128_p1_0_S128x256) := by
  unfold out0_A_2
  rw [pieces_positions, View.read_writes_full, loaded_eq]

end Cert.Own

end
-- ==== Proof.Turn.lean ====
/-
  The turned arrays read at a place. Turning by `d` rows or columns and selecting by the bit gives, at every
  place, the entry of the place whose position differs in that bit.
-/
module

public import proofs.«01_k».proof.Proof.Stage
public import Idealize.ShloMosaic.Lib.Pointwise
public import Idealize.ShloMosaic.Lib.SortNet.Bitonic

@[expose] public section

noncomputable section

namespace Cert.Own

open Idealize.ShloMosaic Idealize.SL.Sem Cert.KernelIdeal

/-- The place at row `r` and column `q`. -/
def at2 (r q : Nat) (hr : r < 256) (hq : q < 128) : S256x128.Idx := ValueIdx.ix2 ⟨r, hr⟩ ⟨q, hq⟩

theorem at2_congr {r q r' q' : Nat} {hr : r < 256} {hq : q < 128} {hr' : r' < 256} {hq' : q' < 128} (er : r = r')
    (eq : q = q') : at2 r q hr hq = at2 r' q' hr' hq' := by
  subst er; subst eq; rfl

/-- A rotation of the rows by `d`, read where the first piece holds. -/
theorem rows_first {α : Type} (d e : Nat) (x : S256x128.Idx → α) (o o' : Nat)
    (hA : S256x128.Slices ![o, 0] ⟨2, ![e, 128]⟩) (hB : S256x128.Slices ![o', 0] ⟨2, ![d, 128]⟩)
    (hc : Shape.Concatenates [⟨2, ![e, 128]⟩, ⟨2, ![d, 128]⟩] S256x128 0) (r q : Nat) (hr : r < 256) (hq : q < 128)
    (h : r < e) (h' : o + r < 256) :
    concatenate S256x128 0 [⟨⟨2, ![e, 128]⟩, extractStridedSlice ⟨2, ![e, 128]⟩ ![o, 0] x hA⟩,
      ⟨⟨2, ![d, 128]⟩, extractStridedSlice ⟨2, ![d, 128]⟩ ![o', 0] x hB⟩] hc (at2 r q hr hq) = x (at2 (o + r) q h' hq) := by
  rw [concatenate_pair_apply, dif_pos (by exact h)]
  refine congrArg x ?_
  funext a
  refine Fin.ext ?_
  match a with
  | ⟨0, _⟩ => rfl
  | ⟨1, _⟩ => exact Nat.zero_add _

/-- A rotation of the rows by `d`, read where the second piece holds. -/
theorem rows_second {α : Type} (d e : Nat) (x : S256x128.Idx → α) (o o' : Nat)
    (hA : S256x128.Slices ![o, 0] ⟨2, ![e, 128]⟩) (hB : S256x128.Slices ![o', 0] ⟨2, ![d, 128]⟩)
    (hc : Shape.Concatenates [⟨2, ![e, 128]⟩, ⟨2, ![d, 128]⟩] S256x128 0) (r q : Nat) (hr : r < 256) (hq : q < 128)
    (h : e ≤ r) (h' : o' + (r - e) < 256) :
    concatenate S256x128 0 [⟨⟨2, ![e, 128]⟩, extractStridedSlice ⟨2, ![e, 128]⟩ ![o, 0] x hA⟩,
      ⟨⟨2, ![d, 128]⟩, extractStridedSlice ⟨2, ![d, 128]⟩ ![o', 0] x hB⟩] hc (at2 r q hr hq)
      = x (at2 (o' + (r - e)) q h' hq) := by
  rw [concatenate_pair_apply, dif_neg (by exact Nat.not_lt.2 h)]
  refine congrArg x ?_
  funext a
  refine Fin.ext ?_
  match a with
  | ⟨0, _⟩ => rfl
  | ⟨1, _⟩ => exact Nat.zero_add _

/-- A rotation of the columns by `d`, read where the first piece holds. -/
theorem cols_first {α : Type} (d e : Nat) (x : S256x128.Idx → α) (o o' : Nat)
    (hA : S256x128.Slices ![0, o] ⟨2, ![256, e]⟩) (hB : S256x128.Slices ![0, o'] ⟨2, ![256, d]⟩)
    (hc : Shape.Concatenates [⟨2, ![256, e]⟩, ⟨2, ![256, d]⟩] S256x128 1) (r q : Nat) (hr : r < 256) (hq : q < 128)
    (h : q < e) (h' : o + q < 128) :
    concatenate S256x128 1 [⟨⟨2, ![256, e]⟩, extractStridedSlice ⟨2, ![256, e]⟩ ![0, o] x hA⟩,
      ⟨⟨2, ![256, d]⟩, extractStridedSlice ⟨2, ![256, d]⟩ ![0, o'] x hB⟩] hc (at2 r q hr hq) = x (at2 r (o + q) hr h') := by
  rw [concatenate_pair_apply, dif_pos (by exact h)]
  refine congrArg x ?_
  funext a
  refine Fin.ext ?_
  match a with
  | ⟨0, _⟩ => exact Nat.zero_add _
  | ⟨1, _⟩ => rfl

/-- A rotation of the columns by `d`, read where the second piece holds. -/
theorem cols_second {α : Type} (d e : Nat) (x : S256x128.Idx → α) (o o' : Nat)
    (hA : S256x128.Slices ![0, o] ⟨2, ![256, e]⟩) (hB : S256x128.Slices ![0, o'] ⟨2, ![256, d]⟩)
    (hc : Shape.Concatenates [⟨2, ![256, e]⟩, ⟨2, ![256, d]⟩] S256x128 1) (r q : Nat) (hr : r < 256) (hq : q < 128)
    (h : e ≤ q) (h' : o' + (q - e) < 128) :
    concatenate S256x128 1 [⟨⟨2, ![256, e]⟩, extractStridedSlice ⟨2, ![256, e]⟩ ![0, o] x hA⟩,
      ⟨⟨2, ![256, d]⟩, extractStridedSlice ⟨2, ![256, d]⟩ ![0, o'] x hB⟩] hc (at2 r q hr hq)
      = x (at2 r (o' + (q - e)) hr h') := by
  rw [concatenate_pair_apply, dif_neg (by exact Nat.not_lt.2 h)]
  refine congrArg x ?_
  funext a
  refine Fin.ext ?_
  match a with
  | ⟨0, _⟩ => exact Nat.zero_add _
  | ⟨1, _⟩ => rfl

/-- Flipping a clear bit adds it, for a row or column number. -/
theorem flip_clear : ∀ s : Fin 8, ∀ r : Fin 256, r.val &&& 2 ^ s.val = 0 →
    r.val + 2 ^ s.val = r.val ^^^ 2 ^ s.val ∧ r.val ^^^ 2 ^ s.val < 256 ∧ (r.val < 128 → s.val < 7 → r.val ^^^ 2 ^ s.val < 128) := by
  decide +kernel

/-- Flipping a set bit takes it away, for a row or column number. -/
theorem flip_set : ∀ s : Fin 8, ∀ r : Fin 256, r.val &&& 2 ^ s.val ≠ 0 →
    2 ^ s.val ≤ r.val ∧ r.val - 2 ^ s.val = r.val ^^^ 2 ^ s.val := by
  decide +kernel

/-- The word test for a bit, for a row or column number. -/
theorem test_bit : ∀ s : Fin 8, ∀ r : Fin 256,
    IntOp.cmpi .eq (IntOp.andi (BitVec.ofNat 32 r.val) (BitVec.ofNat 32 (2 ^ s.val))) 0#32
      = BitVec.ofBool (decide (r.val &&& 2 ^ s.val = 0)) := by
  decide +kernel

/-- The row masks. -/
theorem rowClear_at (s : Nat) (hs : s < 8) (r q : Nat) (hr : r < 256) (hq : q < 128) :
    rowClear (BitVec.ofNat 32 (2 ^ s)) (at2 r q hr hq) = BitVec.ofBool (decide (r &&& 2 ^ s = 0)) := by
  rw [← test_bit ⟨s, hs⟩ ⟨r, hr⟩]
  unfold rowClear
  show IntOp.cmpi .eq (IntOp.andi (BitVec.ofNat 32 (0 * 256 + r)) _) _ = _
  rw [Nat.zero_mul, Nat.zero_add]
  rfl

/-- The column masks. -/
theorem colClear_at (s : Nat) (hs : s < 8) (r q : Nat) (hr : r < 256) (hq : q < 128) :
    colClear (BitVec.ofNat 32 (2 ^ s)) (at2 r q hr hq) = BitVec.ofBool (decide (q &&& 2 ^ s = 0)) := by
  rw [← test_bit ⟨s, hs⟩ ⟨q, by omega⟩]
  unfold colClear
  show IntOp.cmpi .eq (IntOp.andi (BitVec.ofNat 32 (0 * 128 + q)) _) _ = _
  rw [Nat.zero_mul, Nat.zero_add]
  rfl

end Cert.Own

end
-- ==== Proof.Cell.lean ====
/-
  The places in the order of the sorting network: position `p` sits at row `p % 256`, column `p / 256`. The bit
  masks and the turned arrays at a position.
-/
module

public import proofs.«01_k».proof.Proof.Turn

@[expose] public section

noncomputable section

namespace Cert.Own

open Idealize.ShloMosaic Idealize.SL.Sem Cert.KernelIdeal

variable {F : FTy → Type} [FloatOps F]

/-- The place of position `p`. -/
def cell (p : Fin (2 ^ 15)) : S256x128.Idx :=
  at2 (p.val % 256) (p.val / 256) (Nat.mod_lt _ (by decide)) (by have := p.isLt; omega)

/-- Every place is the place of a position. -/
theorem exists_cell (j : S256x128.Idx) : ∃ p, j = cell p := by
  have h0 : (j 0).val < 256 := (j 0).isLt
  have h1 : (j 1).val < 128 := (j 1).isLt
  refine ⟨⟨(j 1).val * 256 + (j 0).val, by omega⟩, ?_⟩
  exact (ValueIdx.eq_ix2 j).trans
    (at2_congr (r := (j 0).val) (q := (j 1).val) (hr := h0) (hq := h1) (by simp only []; omega) (by simp only []; omega))

/-- Rows turned by `2 ^ s` both ways, selected by bit `s`. -/
theorem rows_turned (s d e : Nat) (hs : s < 8) (hd : 2 ^ s = d) (he : d + e = 256) (x : FVec F S256x128 .f32)
    (hA : S256x128.Slices ![d, 0] ⟨2, ![e, 128]⟩) (hB : S256x128.Slices ![0, 0] ⟨2, ![d, 128]⟩)
    (hc : Shape.Concatenates [⟨2, ![e, 128]⟩, ⟨2, ![d, 128]⟩] S256x128 0)
    (hA' : S256x128.Slices ![e, 0] ⟨2, ![d, 128]⟩) (hB' : S256x128.Slices ![0, 0] ⟨2, ![e, 128]⟩)
    (hc' : Shape.Concatenates [⟨2, ![d, 128]⟩, ⟨2, ![e, 128]⟩] S256x128 0)
    (r q : Nat) (hr : r < 256) (hq : q < 128) (hr' : r ^^^ 2 ^ s < 256) :
    select (rowClear (BitVec.ofNat 32 (2 ^ s)))
      (concatenate S256x128 0 [⟨⟨2, ![e, 128]⟩, extractStridedSlice ⟨2, ![e, 128]⟩ ![d, 0] x hA⟩,
        ⟨⟨2, ![d, 128]⟩, extractStridedSlice ⟨2, ![d, 128]⟩ ![0, 0] x hB⟩] hc)
      (concatenate S256x128 0 [⟨⟨2, ![d, 128]⟩, extractStridedSlice ⟨2, ![d, 128]⟩ ![e, 0] x hA'⟩,
        ⟨⟨2, ![e, 128]⟩, extractStridedSlice ⟨2, ![e, 128]⟩ ![0, 0] x hB'⟩] hc') (at2 r q hr hq)
      = x (at2 (r ^^^ 2 ^ s) q hr' hq) := by
  show (if rowClear (BitVec.ofNat 32 (2 ^ s)) (at2 r q hr hq) = 1#1 then _ else _) = _
  rw [rowClear_at s hs]
  by_cases hb : r &&& 2 ^ s = 0
  · obtain ⟨h1, -, -⟩ := flip_clear ⟨s, hs⟩ ⟨r, hr⟩ hb
    simp only [] at h1
    rw [if_pos (by simp [hb]), rows_first d e x d 0 hA hB hc r q hr hq (by omega) (by omega)]
    exact congrArg x (at2_congr (by omega) rfl)
  · obtain ⟨h1, h2⟩ := flip_set ⟨s, hs⟩ ⟨r, hr⟩ hb
    simp only [] at h1 h2
    rw [if_neg (by simp [hb]), rows_second e d x e 0 hA' hB' hc' r q hr hq (by omega) (by omega)]
    exact congrArg x (at2_congr (by omega) rfl)

/-- Columns turned by `2 ^ s` both ways, selected by bit `s`. -/
theorem cols_turned (s d e : Nat) (hs : s < 7) (hd : 2 ^ s = d) (he : d + e = 128) (x : FVec F S256x128 .f32)
    (hA : S256x128.Slices ![0, d] ⟨2, ![256, e]⟩) (hB : S256x128.Slices ![0, 0] ⟨2, ![256, d]⟩)
    (hc : Shape.Concatenates [⟨2, ![256, e]⟩, ⟨2, ![256, d]⟩] S256x128 1)
    (hA' : S256x128.Slices ![0, e] ⟨2, ![256, d]⟩) (hB' : S256x128.Slices ![0, 0] ⟨2, ![256, e]⟩)
    (hc' : Shape.Concatenates [⟨2, ![256, d]⟩, ⟨2, ![256, e]⟩] S256x128 1)
    (r q : Nat) (hr : r < 256) (hq : q < 128) (hq' : q ^^^ 2 ^ s < 128) :
    select (colClear (BitVec.ofNat 32 (2 ^ s)))
      (concatenate S256x128 1 [⟨⟨2, ![256, e]⟩, extractStridedSlice ⟨2, ![256, e]⟩ ![0, d] x hA⟩,
        ⟨⟨2, ![256, d]⟩, extractStridedSlice ⟨2, ![256, d]⟩ ![0, 0] x hB⟩] hc)
      (concatenate S256x128 1 [⟨⟨2, ![256, d]⟩, extractStridedSlice ⟨2, ![256, d]⟩ ![0, e] x hA'⟩,
        ⟨⟨2, ![256, e]⟩, extractStridedSlice ⟨2, ![256, e]⟩ ![0, 0] x hB'⟩] hc') (at2 r q hr hq)
      = x (at2 r (q ^^^ 2 ^ s) hr hq') := by
  show (if colClear (BitVec.ofNat 32 (2 ^ s)) (at2 r q hr hq) = 1#1 then _ else _) = _
  rw [colClear_at s (by omega)]
  by_cases hb : q &&& 2 ^ s = 0
  · obtain ⟨h1, -, -⟩ := flip_clear ⟨s, by omega⟩ ⟨q, by omega⟩ hb
    simp only [] at h1
    rw [if_pos (by simp [hb]), cols_first d e x d 0 hA hB hc r q hr hq (by omega) (by omega)]
    exact congrArg x (at2_congr rfl (by omega))
  · obtain ⟨h1, h2⟩ := flip_set ⟨s, by omega⟩ ⟨q, by omega⟩ hb
    simp only [] at h1 h2
    rw [if_neg (by simp [hb]), cols_second e d x e 0 hA' hB' hc' r q hr hq (by omega) (by omega)]
    exact congrArg x (at2_congr rfl (by omega))

/-- Rows turned by half their number. -/
theorem rows_half (x : FVec F S256x128 .f32) (hA : S256x128.Slices ![128, 0] ⟨2, ![128, 128]⟩)
    (hB : S256x128.Slices ![0, 0] ⟨2, ![128, 128]⟩)
    (hc : Shape.Concatenates [⟨2, ![128, 128]⟩, ⟨2, ![128, 128]⟩] S256x128 0)
    (r q : Nat) (hr : r < 256) (hq : q < 128) (hr' : r ^^^ 2 ^ 7 < 256) :
    concatenate S256x128 0 [⟨⟨2, ![128, 128]⟩, extractStridedSlice ⟨2, ![128, 128]⟩ ![128, 0] x hA⟩,
        ⟨⟨2, ![128, 128]⟩, extractStridedSlice ⟨2, ![128, 128]⟩ ![0, 0] x hB⟩] hc (at2 r q hr hq)
      = x (at2 (r ^^^ 2 ^ 7) q hr' hq) := by
  by_cases hb : r &&& 2 ^ 7 = 0
  · obtain ⟨h1, h2, -⟩ := flip_clear ⟨7, by omega⟩ ⟨r, hr⟩ hb
    simp only [] at h1 h2
    rw [rows_first 128 128 x 128 0 hA hB hc r q hr hq (by omega) (by omega)]
    exact congrArg x (at2_congr (by omega) rfl)
  · obtain ⟨h1, h2⟩ := flip_set ⟨7, by omega⟩ ⟨r, hr⟩ hb
    simp only [] at h1 h2
    rw [rows_second 128 128 x 128 0 hA hB hc r q hr hq (by omega) (by omega)]
    exact congrArg x (at2_congr (by omega) rfl)

/-- Columns turned by half their number. -/
theorem cols_half (x : FVec F S256x128 .f32) (hA : S256x128.Slices ![0, 64] ⟨2, ![256, 64]⟩)
    (hB : S256x128.Slices ![0, 0] ⟨2, ![256, 64]⟩)
    (hc : Shape.Concatenates [⟨2, ![256, 64]⟩, ⟨2, ![256, 64]⟩] S256x128 1)
    (r q : Nat) (hr : r < 256) (hq : q < 128) (hq' : q ^^^ 2 ^ 6 < 128) :
    concatenate S256x128 1 [⟨⟨2, ![256, 64]⟩, extractStridedSlice ⟨2, ![256, 64]⟩ ![0, 64] x hA⟩,
        ⟨⟨2, ![256, 64]⟩, extractStridedSlice ⟨2, ![256, 64]⟩ ![0, 0] x hB⟩] hc (at2 r q hr hq)
      = x (at2 r (q ^^^ 2 ^ 6) hr hq') := by
  by_cases hb : q &&& 2 ^ 6 = 0
  · obtain ⟨h1, -, h2⟩ := flip_clear ⟨6, by omega⟩ ⟨q, by omega⟩ hb
    simp only [] at h1
    rw [cols_first 64 64 x 64 0 hA hB hc r q hr hq (by omega) (by omega)]
    exact congrArg x (at2_congr rfl (by omega))
  · obtain ⟨h1, h2⟩ := flip_set ⟨6, by omega⟩ ⟨q, by omega⟩ hb
    simp only [] at h1 h2
    rw [cols_second 64 64 x 64 0 hA hB hc r q hr hq (by omega) (by omega)]
    exact congrArg x (at2_congr rfl (by omega))

/-- A row's bit `s`, flipped, is a row. -/
theorem row_flip {r s : Nat} (hr : r < 256) (hs : s < 8) : r ^^^ 2 ^ s < 256 :=
  Nat.xor_lt_two_pow (n := 8) hr (Nat.pow_lt_pow_right (by decide) hs)

/-- A column's bit `s`, flipped, is a column. -/
theorem col_flip {q s : Nat} (hq : q < 128) (hs : s < 7) : q ^^^ 2 ^ s < 128 :=
  Nat.xor_lt_two_pow (n := 7) hq (Nat.pow_lt_pow_right (by decide) hs)

/-- The partner in a row bit, at a row and column. -/
theorem across_row (s : Nat) (hs : s < 8) (x : FVec F S256x128 .f32) (r q : Nat) (hr : r < 256) (hq : q < 128) :
    across s x (at2 r q hr hq) = x (at2 (r ^^^ 2 ^ s) q (row_flip hr hs) hq) := by
  match s, hs with
  | 0, h => exact rows_turned 0 1 255 h rfl rfl x _ _ _ _ _ _ r q hr hq _
  | 1, h => exact rows_turned 1 2 254 h rfl rfl x _ _ _ _ _ _ r q hr hq _
  | 2, h => exact rows_turned 2 4 252 h rfl rfl x _ _ _ _ _ _ r q hr hq _
  | 3, h => exact rows_turned 3 8 248 h rfl rfl x _ _ _ _ _ _ r q hr hq _
  | 4, h => exact rows_turned 4 16 240 h rfl rfl x _ _ _ _ _ _ r q hr hq _
  | 5, h => exact rows_turned 5 32 224 h rfl rfl x _ _ _ _ _ _ r q hr hq _
  | 6, h => exact rows_turned 6 64 192 h rfl rfl x _ _ _ _ _ _ r q hr hq _
  | 7, h => exact rows_half x _ _ Facts₀.concatenates_S128x128_S128x128_S256x128_d0 r q hr hq _

/-- The partner in a column bit, at a row and column. -/
theorem across_col (s : Nat) (hs : s < 7) (x : FVec F S256x128 .f32) (r q : Nat) (hr : r < 256) (hq : q < 128) :
    across (s + 8) x (at2 r q hr hq) = x (at2 r (q ^^^ 2 ^ s) hr (col_flip hq hs)) := by
  match s, hs with
  | 0, h => exact cols_turned 0 1 127 h rfl rfl x _ _ _ _ _ _ r q hr hq _
  | 1, h => exact cols_turned 1 2 126 h rfl rfl x _ _ _ _ _ _ r q hr hq _
  | 2, h => exact cols_turned 2 4 124 h rfl rfl x _ _ _ _ _ _ r q hr hq _
  | 3, h => exact cols_turned 3 8 120 h rfl rfl x _ _ _ _ _ _ r q hr hq _
  | 4, h => exact cols_turned 4 16 112 h rfl rfl x _ _ _ _ _ _ r q hr hq _
  | 5, h => exact cols_turned 5 32 96 h rfl rfl x _ _ _ _ _ _ r q hr hq _
  | 6, h => exact cols_half x _ _ Facts₀.concatenates_S256x64_S256x64_S256x128_d1 r q hr hq _

/-- The turned array at a position holds the partner's entry. -/
theorem across_cell (s : Nat) (hs : s < 15) (x : FVec F S256x128 .f32) (p : Fin (2 ^ 15)) :
    across s x (cell p) = x (cell (SortNet.partner 15 s p)) := by
  by_cases h8 : s < 8
  · unfold cell
    rw [across_row s h8]
    refine congrArg x (at2_congr ?_ ?_)
    · rw [SortNet.partner_val hs, show 256 = 2 ^ 8 from rfl, Nat.xor_mod_two_pow,
        Nat.mod_eq_of_lt (Nat.pow_lt_pow_right (by decide) h8 : 2 ^ s < 2 ^ 8)]
    · rw [SortNet.partner_val hs, show 256 = 2 ^ 8 from rfl, Nat.xor_div_two_pow,
        Nat.div_eq_of_lt (Nat.pow_lt_pow_right (by decide) h8 : 2 ^ s < 2 ^ 8), Nat.xor_zero]
  · obtain ⟨t, rfl⟩ : ∃ t, s = t + 8 := ⟨s - 8, by omega⟩
    have e : 2 ^ (t + 8) = 2 ^ t * 2 ^ 8 := Nat.pow_add 2 t 8
    unfold cell
    rw [across_col t (by omega)]
    refine congrArg x (at2_congr ?_ ?_)
    · rw [SortNet.partner_val hs, show 256 = 2 ^ 8 from rfl, Nat.xor_mod_two_pow, e, Nat.mul_mod_left, Nat.xor_zero]
    · rw [SortNet.partner_val hs, show 256 = 2 ^ 8 from rfl, Nat.xor_div_two_pow, e, Nat.mul_div_cancel _ (by decide)]

/-- The bit masks at a row and column. -/
theorem clear_row (s : Nat) (hs : s < 8) (r q : Nat) (hr : r < 256) (hq : q < 128) :
    clear s (at2 r q hr hq) = BitVec.ofBool (decide (r &&& 2 ^ s = 0)) := by
  rw [← rowClear_at s hs r q hr hq]
  match s, hs with
  | 0, _ => rfl
  | 1, _ => rfl
  | 2, _ => rfl
  | 3, _ => rfl
  | 4, _ => rfl
  | 5, _ => rfl
  | 6, _ => rfl
  | 7, _ => rfl

/-- The bit masks at a row and column, for a column's bits. -/
theorem clear_col (s : Nat) (hs : s < 8) (r q : Nat) (hr : r < 256) (hq : q < 128) :
    clear (s + 8) (at2 r q hr hq) = BitVec.ofBool (decide (q &&& 2 ^ s = 0)) := by
  rw [← colClear_at s hs r q hr hq]
  match s, hs with
  | 0, _ => rfl
  | 1, _ => rfl
  | 2, _ => rfl
  | 3, _ => rfl
  | 4, _ => rfl
  | 5, _ => rfl
  | 6, _ => rfl
  | 7, _ => rfl

/-- The bit masks at a position. -/
theorem clear_cell (s : Nat) (hs : s < 16) (p : Fin (2 ^ 15)) :
    clear s (cell p) = BitVec.ofBool (decide (p.val &&& 2 ^ s = 0)) := by
  by_cases h8 : s < 8
  · unfold cell
    rw [clear_row s h8]
    refine congrArg BitVec.ofBool (decide_eq_decide.2 ?_)
    rw [SortNet.and_two_pow_eq_zero_iff_testBit, SortNet.and_two_pow_eq_zero_iff_testBit, show 256 = 2 ^ 8 from rfl,
      Nat.testBit_mod_two_pow]
    simp [h8]
  · obtain ⟨t, rfl⟩ : ∃ t, s = t + 8 := ⟨s - 8, by omega⟩
    unfold cell
    rw [clear_col t (by omega)]
    refine congrArg BitVec.ofBool (decide_eq_decide.2 ?_)
    rw [SortNet.and_two_pow_eq_zero_iff_testBit, SortNet.and_two_pow_eq_zero_iff_testBit, show 256 = 2 ^ 8 from rfl,
      Nat.testBit_div_two_pow]

end Cert.Own

end
-- ==== Proof.Order.lean ====
/-
  Which of two entries an exchange keeps. The keys are real, and two different ones differ by `gap` at least; the
  weighted sum of the differences then has the sign of the lexicographic comparison.
-/
module

public import proofs.«01_k».proof.Proof.Cell
public import Idealize.ShloMosaic.Lib.IdealHost
public import Mathlib.Data.Prod.Lex

@[expose] public section

noncomputable section

namespace Cert.Own

open Idealize.ShloMosaic

/-- The weight of a difference of keys, `1e35` in single precision. -/
def big : ℝ := 10097420 * 2 ^ 93

/-- The weight of a difference of positions, `1e-8` in single precision. -/
def small : ℝ := 11258999 / 2 ^ 50

/-- The least distance of two different keys, `2 ^ -126`. -/
def gap : ℝ := 1 / 2 ^ 126

theorem ofBits_big : Ideal.ofBits .f32 0x799A130C#32 = ((big : ℝ) : EReal) := by
  simp [Ideal.ofBits, Ideal.ieee, -EReal.coe_mul]; norm_num [big]

theorem ofBits_small : Ideal.ofBits .f32 0x322BCC77#32 = ((small : ℝ) : EReal) := by
  simp [Ideal.ofBits, Ideal.ieee, -EReal.coe_mul]; norm_num [small]

theorem ofBits_gap : Ideal.ofBits .f32 0x00800000#32 = ((gap : ℝ) : EReal) := by
  simp [Ideal.ofBits, Ideal.ieee, -EReal.coe_mul]; norm_num [gap]

theorem ofBits_none : Ideal.ofBits .f32 0x00000000#32 = 0 := by
  simp [Ideal.ofBits, Ideal.ieee]

theorem small_pos : 0 < small := by norm_num [small]

theorem big_pos : 0 < big := by norm_num [big]

/-- A gap of keys outweighs every difference of positions. -/
theorem outweighs : 32768 * small < gap * big := by norm_num [small, big, gap]

/-- Two different keys differ by `gap` at least. -/
def Apart (x : Fin 32768 → ℝ) : Prop := ∀ i j, x i - x j ≤ 0 ∨ gap ≤ x i - x j

/-- The entry of the input at `n`: the key and then the position. -/
def entry (x : Fin 32768 → ℝ) (n : Fin 32768) : ℝ ×ₗ ℕ := toLex (x n, n.val)

/-- The weighted sum is positive exactly where the first entry is the greater. -/
theorem sum_pos_iff {x : Fin 32768 → ℝ} (hx : Apart x) (a b : Fin 32768) :
    0 < (x a - x b) * big + ((a.val : ℝ) - (b.val : ℝ)) * small ↔ entry x b < entry x a := by
  unfold entry
  rw [Prod.Lex.toLex_lt_toLex]
  have ha : (a.val : ℝ) < 32768 := by exact_mod_cast a.isLt
  have hb : (b.val : ℝ) < 32768 := by exact_mod_cast b.isLt
  have ha0 : (0 : ℝ) ≤ a.val := Nat.cast_nonneg _
  have hb0 : (0 : ℝ) ≤ b.val := Nat.cast_nonneg _
  have hs := small_pos
  have hB := big_pos
  have ho := outweighs
  rcases lt_trichotomy (x a) (x b) with h | h | h
  · have hg : gap ≤ x b - x a := (hx b a).resolve_left (by linarith)
    have h1 : gap * big ≤ (x b - x a) * big := mul_le_mul_of_nonneg_right hg hB.le
    have h2 : ((a.val : ℝ) - b.val) * small ≤ 32768 * small := mul_le_mul_of_nonneg_right (by linarith) hs.le
    constructor
    · intro h3; exfalso; linarith
    · rintro (h3 | ⟨h3, -⟩) <;> exfalso <;> simp only [] at h3 <;> linarith
  · simp only [h, sub_self, zero_mul, zero_add, lt_irrefl, false_or, true_and]
    rw [mul_pos_iff_of_pos_right hs, sub_pos, Nat.cast_lt]
  · have hg : gap ≤ x a - x b := (hx a b).resolve_left (by linarith)
    have h1 : gap * big ≤ (x a - x b) * big := mul_le_mul_of_nonneg_right hg hB.le
    have h2 : ((b.val : ℝ) - a.val) * small ≤ 32768 * small := mul_le_mul_of_nonneg_right (by linarith) hs.le
    constructor
    · intro _; exact Or.inl h
    · intro _; linarith

/-- With both weights negated it is positive exactly where the first entry is the smaller. -/
theorem sum_neg_iff {x : Fin 32768 → ℝ} (hx : Apart x) (a b : Fin 32768) :
    0 < (x a - x b) * (-big) + ((a.val : ℝ) - (b.val : ℝ)) * (-small) ↔ entry x a < entry x b := by
  rw [← sum_pos_iff hx b a]
  have : (x a - x b) * (-big) + ((a.val : ℝ) - (b.val : ℝ)) * (-small)
      = (x b - x a) * big + ((b.val : ℝ) - (a.val : ℝ)) * small := by ring
  rw [this]

end Cert.Own

end
-- ==== Proof.Swap.lean ====
/-
  One exchange of the kernel is one stage of the bitonic network, on states that hold entries of the input.
-/
module

public import proofs.«01_k».proof.Proof.Order

@[expose] public section

noncomputable section

namespace Cert.Own

open Idealize.ShloMosaic Idealize.SL.Sem Cert.KernelIdeal

/-- The two arrays hold, position by position, the entries of the input that `f` names. -/
def Holds (x : Fin 32768 → ℝ) (f : Fin (2 ^ 15) → Fin 32768)
    (a : FVec Ideal S256x128 .f32 × FVec Ideal S256x128 .f32) : Prop :=
  ∀ p, a.1 (cell p) = ((x (f p) : ℝ) : EReal) ∧ a.2 (cell p) = ((((f p).val : ℕ) : ℝ) : EReal)

/-- Whether position `p` keeps the smaller entry in exchange `(l, s)`. -/
def small? (l s : Nat) (p : Fin (2 ^ 15)) : Bool := decide (p.val &&& 2 ^ s = 0) == decide (p.val &&& 2 ^ (l + 1) = 0)

/-- The kernel's mask for it. -/
theorem wantMin_cell (l s : Nat) (hl : l < 15) (hs : s < 15) (p : Fin (2 ^ 15)) :
    wantMin l s (cell p) = BitVec.ofBool (small? l s p) := by
  show IntOp.xori (IntOp.xori (clear s (cell p)) (clear (l + 1) (cell p))) 1#1 = _
  rw [clear_cell s (by omega), clear_cell (l + 1) (by omega)]
  unfold small?
  cases decide (p.val &&& 2 ^ s = 0) <;> cases decide (p.val &&& 2 ^ (l + 1) = 0) <;> rfl

/-- A word of one bit made from a truth value is one exactly where it is true. -/
theorem ofBool_one (b : Bool) : BitVec.ofBool b = 1#1 ↔ b = true := by cases b <;> decide

/-- The signed weights at a position. -/
theorem signed_cell (l s : Nat) (hl : l < 15) (hs : s < 15) (b : BitVec 32) (w : ℝ)
    (hb : Ideal.ofBits .f32 b = ((w : ℝ) : EReal)) (p : Fin (2 ^ 15)) :
    signed (F := Ideal) l s b (cell p) = (((if small? l s p then w else -w : ℝ)) : EReal) := by
  show (if wantMin l s (cell p) = 1#1 then (Ideal.ofBits .f32 b : EReal)
    else (Ideal.ofBits .f32 0x00000000#32 : EReal) - (Ideal.ofBits .f32 b : EReal)) = _
  rw [wantMin_cell l s hl hs, hb, ofBits_none]
  cases small? l s p
  · rw [if_neg (by decide), if_neg (by decide), zero_sub, EReal.coe_neg]
  · rw [if_pos (by decide), if_pos rfl]

/-- What an exchange decides at a position: the partner's entry is taken where it is the one wanted. -/
theorem takes_cell {x : Fin 32768 → ℝ} (hx : Apart x) (l s : Nat) (hl : l < 15) (hs : s < 15)
    (f : Fin (2 ^ 15) → Fin 32768) (a : FVec Ideal S256x128 .f32 × FVec Ideal S256x128 .f32) (ha : Holds x f a)
    (p : Fin (2 ^ 15)) :
    takes l s a.1 a.2 (cell p) = 1#1 ↔
      (if small? l s p then entry x (f (SortNet.partner 15 s p)) < entry x (f p)
        else entry x (f p) < entry x (f (SortNet.partner 15 s p))) := by
  have e : takes l s a.1 a.2 (cell p) = BitVec.ofBool (decide ((Ideal.ofBits .f32 0x00000000#32 : EReal) <
      (((a.1 (cell p) : EReal) - (across s a.1 (cell p) : EReal)) * (signed (F := Ideal) l s 0x799A130C#32 (cell p) : EReal)
      + ((a.2 (cell p) : EReal) - (across s a.2 (cell p) : EReal)) * (signed (F := Ideal) l s 0x322BCC77#32 (cell p) : EReal)))) := rfl
  rw [e, across_cell s hs, across_cell s hs, signed_cell l s hl hs _ big ofBits_big, signed_cell l s hl hs _ small ofBits_small,
    (ha p).1, (ha p).2, (ha (SortNet.partner 15 s p)).1, (ha (SortNet.partner 15 s p)).2, ofBits_none, ofBool_one,
    decide_eq_true_iff, ← EReal.coe_sub, ← EReal.coe_sub, ← EReal.coe_mul, ← EReal.coe_mul, ← EReal.coe_add, EReal.coe_pos]
  cases small? l s p
  · exact sum_neg_iff hx _ _
  · exact sum_pos_iff hx _ _

/-- A stage depends on its directions at the earlier positions only. -/
theorem stage_congr {p s : Nat} {k k' : Fin (2 ^ p) → Bool} (h : ∀ i, i.val &&& 2 ^ s = 0 → k i = k' i) :
    SortNet.stage p s k = SortNet.stage p s k' := by
  unfold SortNet.stage
  refine List.filterMap_congr fun i _ => ?_
  by_cases hi : i.val &&& 2 ^ s = 0
  · rw [if_pos hi, if_pos hi, h i hi]
  · rw [if_neg hi, if_neg hi]

/-- A position and its partner want different entries. -/
theorem small?_partner (l s : Nat) (hls : s ≤ l) (hl : l < 15) (p : Fin (2 ^ 15)) :
    small? l s (SortNet.partner 15 s p) = !small? l s p := by
  have h : ∀ n : Nat, decide (n &&& 2 ^ s = 0) = !n.testBit s := fun n => by
    rw [Bool.eq_iff_iff, decide_eq_true_iff, SortNet.and_two_pow_eq_zero_iff_testBit]; simp
  have h' : ∀ n : Nat, decide (n &&& 2 ^ (l + 1) = 0) = !n.testBit (l + 1) := fun n => by
    rw [Bool.eq_iff_iff, decide_eq_true_iff, SortNet.and_two_pow_eq_zero_iff_testBit]; simp
  unfold small?
  rw [h, h', h, h', SortNet.partner_val (by omega), Nat.testBit_xor, Nat.testBit_xor, Nat.testBit_two_pow, Nat.testBit_two_pow]
  rw [decide_eq_true (rfl : s = s), decide_eq_false (by omega : ¬ s = l + 1)]
  cases p.val.testBit s <;> cases p.val.testBit (l + 1) <;> rfl

/-- One exchange leaves what the stage leaves, at the entries that some positions name. -/
theorem exchange_stage {x : Fin 32768 → ℝ} (hx : Apart x) (l s : Nat) (hls : s ≤ l) (hl : l < 15)
    (f : Fin (2 ^ 15) → Fin 32768) (a : FVec Ideal S256x128 .f32 × FVec Ideal S256x128 .f32) (ha : Holds x f a) :
    ∃ g, Holds x g (exchange a (l, s)) ∧ entry x ∘ g = SortNet.Network.apply
      (SortNet.stage 15 s fun i => (decide (i.val &&& 2 ^ (l + 1) = 0)) == false) (entry x ∘ f) := by
  have hs : s < 15 := by omega
  have hst : SortNet.stage 15 s (fun i => (decide (i.val &&& 2 ^ (l + 1) = 0)) == false)
      = SortNet.stage 15 s fun i => !small? l s i :=
    stage_congr fun i hi => by
      unfold small?; rw [hi]; cases decide (i.val &&& 2 ^ (l + 1) = 0) <;> rfl
  refine ⟨fun p => if takes l s a.1 a.2 (cell p) = 1#1 then f (SortNet.partner 15 s p) else f p, fun p => ?_, ?_⟩
  · constructor
    · show (if takes l s a.1 a.2 (cell p) = 1#1 then across s a.1 (cell p) else a.1 (cell p)) = _
      rw [across_cell s hs, (ha p).1, (ha _).1]
      by_cases ht : takes l s a.1 a.2 (cell p) = 1#1
      · rw [if_pos ht]; simp only [if_pos ht]
      · rw [if_neg ht]; simp only [if_neg ht]
    · show (if takes l s a.1 a.2 (cell p) = 1#1 then across s a.2 (cell p) else a.2 (cell p)) = _
      rw [across_cell s hs, (ha p).2, (ha _).2]
      by_cases ht : takes l s a.1 a.2 (cell p) = 1#1
      · rw [if_pos ht]; simp only [if_pos ht]
      · rw [if_neg ht]; simp only [if_neg ht]
  · funext p
    rw [hst, SortNet.apply_stage_select hs _ (fun j => by rw [small?_partner l s hls hl]) _ p]
    have ht := takes_cell hx l s hl hs f a ha p
    simp only [Function.comp_apply]
    cases hc : small? l s p
    · rw [hc, if_neg (by decide)] at ht
      by_cases h1 : entry x (f (SortNet.partner 15 s p)) < entry x (f p)
      · rw [if_neg (fun h => lt_asymm h1 (ht.1 h)), if_pos (by simpa using h1)]
      · rw [if_neg (show ¬ (decide (entry x (f (SortNet.partner 15 s p)) < entry x (f p)) = !false) by simpa using h1)]
        by_cases h2 : entry x (f p) < entry x (f (SortNet.partner 15 s p))
        · rw [if_pos (ht.2 h2)]
        · rw [if_neg (fun h => h2 (ht.1 h))]
          exact le_antisymm (not_lt.1 h1) (not_lt.1 h2)
    · rw [hc, if_pos rfl] at ht
      by_cases h1 : entry x (f (SortNet.partner 15 s p)) < entry x (f p)
      · rw [if_pos (ht.2 h1), if_neg (by simp [h1])]
      · rw [if_neg (fun h => h1 (ht.1 h)), if_pos (by simp [h1])]

end Cert.Own

end
-- ==== Proof.Network.lean ====
/-
  The whole network: from a state whose entries are those of the input in some order, its 120 exchanges leave the
  entries sorted.
-/
module

public import proofs.«01_k».proof.Proof.Swap
public import Idealize.ShloMosaic.Lib.SortNet.Sorts
public import Mathlib.Order.WellFounded

@[expose] public section

noncomputable section

namespace Cert.Own

open Idealize.ShloMosaic Idealize.SL.Sem Cert.KernelIdeal

/-- A list of exchanges leaves what its list of stages leaves. -/
theorem exchanges_stages {x : Fin 32768 → ℝ} (hx : Apart x) (E : List (Nat × Nat)) (hE : ∀ e ∈ E, e.2 ≤ e.1 ∧ e.1 < 15)
    (f : Fin (2 ^ 15) → Fin 32768) (a : FVec Ideal S256x128 .f32 × FVec Ideal S256x128 .f32) (ha : Holds x f a) :
    ∃ g, Holds x g (E.foldl exchange a) ∧ entry x ∘ g = SortNet.Network.apply
      (E.flatMap fun e => SortNet.stage 15 e.2 fun i => (decide (i.val &&& 2 ^ (e.1 + 1) = 0)) == false) (entry x ∘ f) := by
  induction E generalizing f a with
  | nil => exact ⟨f, ha, rfl⟩
  | cons e E ih =>
    obtain ⟨l, s⟩ := e
    obtain ⟨h1, h2⟩ := hE (l, s) List.mem_cons_self
    obtain ⟨g, hg, eg⟩ := exchange_stage hx l s h1 h2 f a ha
    obtain ⟨g', hg', eg'⟩ := ih (fun e he => hE e (List.mem_cons_of_mem _ he)) g _ hg
    refine ⟨g', hg', ?_⟩
    rw [eg', eg, List.flatMap_cons, SortNet.Network.apply_append]

/-- The kernel's exchanges are the stages of the bitonic sort. -/
theorem exchanges_sortNet :
    (exchanges.flatMap fun e => SortNet.stage 15 e.2 fun i => (decide (i.val &&& 2 ^ (e.1 + 1) = 0)) == false)
      = SortNet.sortNet 15 false := by
  rw [exchanges_eq, List.flatMap_assoc]
  unfold SortNet.sortNet
  refine congrArg (fun k => List.flatMap k (List.range 15)) (funext fun l => ?_)
  rw [List.flatMap_map]

/-- Every exchange's bit lies within its level, and there are fifteen levels. -/
theorem exchanges_bound : ∀ e ∈ exchanges, e.2 ≤ e.1 ∧ e.1 < 15 := by decide +kernel

/-- The network sorts and only rearranges. -/
theorem network_sorts {x : Fin 32768 → ℝ} (hx : Apart x) (f : Fin (2 ^ 15) → Fin 32768)
    (a : FVec Ideal S256x128 .f32 × FVec Ideal S256x128 .f32) (ha : Holds x f a) :
    ∃ g, Holds x g (exchanges.foldl exchange a) ∧ Monotone (entry x ∘ g)
      ∧ ∃ σ : Equiv.Perm (Fin (2 ^ 15)), entry x ∘ g = (entry x ∘ f) ∘ σ := by
  obtain ⟨g, hg, eg⟩ := exchanges_stages hx exchanges exchanges_bound f a ha
  rw [exchanges_sortNet] at eg
  refine ⟨g, hg, ?_, ?_⟩
  · rw [eg]; exact SortNet.sortNet_apply_monotone 15 _
  · rw [eg]; exact SortNet.Network.exists_perm _ _

/-- Different positions have different entries. -/
theorem entry_injective (x : Fin 32768 → ℝ) : Function.Injective (entry x) := fun a b h => by
  have h1 := congrArg (fun e => (ofLex e).2) h
  exact Fin.ext h1

/-- Two orders without repetition in which the entries ascend are the same. -/
theorem sorted_unique (x : Fin 32768 → ℝ) (g t : Fin 32768 → Fin 32768) (hg : Function.Injective g)
    (ht : Function.Injective t) (mg : Monotone (entry x ∘ g)) (mt : Monotone (entry x ∘ t)) : g = t := by
  have bg := Finite.injective_iff_bijective.1 hg
  have bt := Finite.injective_iff_bijective.1 ht
  have sg : StrictMono (entry x ∘ g) := mg.strictMono_of_injective ((entry_injective x).comp hg)
  have st : StrictMono (entry x ∘ t) := mt.strictMono_of_injective ((entry_injective x).comp ht)
  have e : entry x ∘ g = entry x ∘ t := (sg.range_inj st).1 (by
    rw [bg.surjective.range_comp, bt.surjective.range_comp])
  funext n
  exact entry_injective x (congrFun e n)

/-- The position of the input that starts at position `p` of the network. -/
def orig (p : Fin (2 ^ 15)) : Fin 32768 := ⟨p.val % 256 * 128 + p.val / 256, by have := p.isLt; omega⟩

theorem orig_injective : Function.Injective orig := fun p q h => by
  have h1 : p.val % 256 * 128 + p.val / 256 = q.val % 256 * 128 + q.val / 256 := congrArg Fin.val h
  have hp : p.val < 32768 := p.isLt
  have hq : q.val < 32768 := q.isLt
  exact Fin.ext (by omega)

/-- The word of a row and a column, as a number. -/
theorem start_word (r : Fin 256) (q : Fin 128) :
    (IntOp.addi (IntOp.muli (BitVec.ofNat 32 r.val) 128#32) (BitVec.ofNat 32 q.val)).toInt = ((r.val * 128 + q.val : ℕ) : ℤ) := by
  have e : IntOp.addi (IntOp.muli (BitVec.ofNat 32 r.val) 128#32) (BitVec.ofNat 32 q.val) = BitVec.ofNat 32 (r.val * 128 + q.val) := by
    show BitVec.ofNat 32 r.val * BitVec.ofNat 32 128 + BitVec.ofNat 32 q.val = _
    rw [← BitVec.ofNat_mul, ← BitVec.ofNat_add]
  have hr := r.isLt
  have hq := q.isLt
  rw [e, BitVec.toInt_eq_toNat_of_lt, BitVec.toNat_ofNat, Nat.mod_eq_of_lt (by omega)]
  rw [BitVec.toNat_ofNat, Nat.mod_eq_of_lt (by omega)]
  omega

/-- The positions the kernel starts from. -/
theorem start_cell (p : Fin (2 ^ 15)) : start (F := Ideal) (cell p) = ((((orig p).val : ℕ) : ℝ) : EReal) := by
  have hp : p.val < 32768 := p.isLt
  have e : start (F := Ideal) (cell p) = (((IntOp.addi (IntOp.muli (BitVec.ofNat 32 (0 * 256 + p.val % 256)) 128#32)
      (BitVec.ofNat 32 (0 * 128 + p.val / 256))).toInt : ℝ) : EReal) := rfl
  rw [e, show 0 * 256 + p.val % 256 = p.val % 256 from Nat.zero_add _, show 0 * 128 + p.val / 256 = p.val / 256 from Nat.zero_add _,
    start_word ⟨p.val % 256, Nat.mod_lt _ (by decide)⟩ ⟨p.val / 256, by omega⟩, Int.cast_natCast]
  rfl

/-- What the kernel's network leaves: the input's entries in ascending order. -/
theorem final_sorted {x : Fin 32768 → ℝ} (hx : Apart x) (x0 : FVec Ideal S256x128 .f32)
    (h0 : ∀ p, x0 (cell p) = ((x (orig p) : ℝ) : EReal)) :
    ∃ g : Fin 32768 → Fin 32768, Holds x g (final x0) ∧ Monotone (entry x ∘ g) ∧ Function.Injective g := by
  obtain ⟨g, hg, mg, σ, eg⟩ := network_sorts hx orig (x0, start) fun p => ⟨h0 p, start_cell p⟩
  refine ⟨g, hg, mg, fun a b hab => ?_⟩
  have h1 : (entry x ∘ g) a = (entry x ∘ g) b := congrArg (entry x) hab
  rw [eg] at h1
  exact σ.injective (orig_injective (entry_injective x h1))

end Cert.Own

end
-- ==== Proof.Stable.lean ====
/-
  A stable sort by the keys puts the entries in ascending order of the pair (key, position).
-/
module

public import proofs.«01_k».proof.Proof.Network
public import Idealize.ShloMosaic.Lib.SortFacts

@[expose] public section

noncomputable section

namespace Cert.Own

open Idealize.ShloMosaic

/-- Two comparisons that agree on every later element against an earlier one sort a list alike. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- Sorts that list the positions alike take them alike. -/
theorem sortedFrom_of_positions {n : Nat} {R R' : Fin n → Fin n → Bool} (e : sortPositions n R = sortPositions n R') :
    sortedFrom R = sortedFrom R' := by
  funext k
  unfold sortedFrom
  rw [List.get_of_eq e]
  rfl

/-- The positions of a stable sort by the keys. -/
def sorted (x : Fin 32768 → ℝ) : Fin 32768 → Fin 32768 := sortedFrom fun a b => decide (x a < x b)

theorem sorted_injective (x : Fin 32768 → ℝ) : Function.Injective (sorted x) := sortedFrom_injective _

theorem sorted_eq (x : Fin 32768 → ℝ) : sorted x = sortedFrom fun a b => decide (entry x a < entry x b) := by
  have e : sortPositions 32768 (fun a b => decide (x a < x b)) = sortPositions 32768 fun a b => decide (entry x a < entry x b) := by
    unfold sortPositions
    refine stableSort_agree _ _ _ ((List.pairwise_lt_finRange 32768).imp fun {a b} hab => decide_eq_decide.2 ?_)
    unfold entry
    rw [Prod.Lex.toLex_lt_toLex]
    constructor
    · exact Or.inl
    · rintro (h | ⟨-, h⟩)
      · exact h
      · exact absurd (show b.val < a.val from h) (by have : a.val < b.val := hab; omega)
  exact sortedFrom_of_positions e

/-- Along them the entries ascend. -/
theorem sorted_monotone (x : Fin 32768 → ℝ) : Monotone (entry x ∘ sorted x) := by
  refine monotone_iff_forall_lt.2 fun i j hij => ?_
  have h := sortedFrom_noInversion (fun a b => decide (entry x a < entry x b)) (fun a b => decide (entry x a < entry x b))
    (fun a b hab => decide_eq_false (lt_asymm (of_decide_eq_true hab))) (fun _ _ hab => hab)
    (fun a b c hab hbc => decide_eq_false (not_lt.2 (le_trans (not_lt.1 (of_decide_eq_false hbc)) (not_lt.1 (of_decide_eq_false hab)))))
    i j hij
  rw [← sorted_eq] at h
  exact not_lt.1 (of_decide_eq_false h)

end Cert.Own

end
-- ==== Proof.Reference.lean ====
/-
  The reference's two results at an index: the position a stable sort by the keys puts there, and that key.
-/
module

public import proofs.«01_k».proof.Proof.Stable
public import proofs.«01_k».proof.Proof.Gen.ReferenceIdeal.Run
public import Idealize.ShloMosaic.Lib.Routing.OpsSearch
public import Idealize.ShloMosaic.Lib.ReduceAll
public import Idealize.ShloMosaic.Lib.ValueIdx

@[expose] public section

noncomputable section

namespace Cert.Own

open Idealize.ShloMosaic Idealize.ShloMosaic.TcCoe Idealize.SL.Sem Cert.ReferenceIdeal Cert.ReferenceIdeal.Facts₀

variable {F : FTy → Type} [FloatOps F]

/-- What is added to the input and later taken away: the graph number times the width. -/
def shift (a : FVec F S32768 .f32) (b : IVec S32768 32) : FVec F S32768 .f32 :=
  mulf (sitofp .f32 b) (broadcastInDim S32768 ![] bcast_S_S32768
    (addf (subf (Host.reduce FloatOps.maximumf a (constant S_ .f32 0xFF800000#32) reducesTo_S32768_S_d0 h_S_)
      (Host.reduce FloatOps.minimumf a (constant S_ .f32 0x7F800000#32) reducesTo_S32768_S_d0 h_S_)) (constant S_ .f32 0x3F800000#32)))

/-- The keys that are sorted. -/
def keys (a : FVec F S32768 .f32) (b : IVec S32768 32) : FVec F S32768 .f32 := addf a (shift a b)

/-- The sorting order of the keys, as words. -/
def order (k : FVec F S32768 .f32) : IVec S32768 32 := (Host.sort2 S32768 0 comparator_f32_i32_d0 k (iotaInDim S32768 32 0)).2

/-- The indices of a take, negative ones counted from the end. -/
def starts (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 32768#32))) i)

/-- Whether each index lies in range. -/
def within (i : IVec S32768 32) : IVec S32768x1 1 :=
  andi (cmpi .sge (starts i) (broadcastInDim S32768x1 ![] bcast_S_S32768x1 (constantI S_ 32 0#32)))
    (cmpi .sle (starts i) (broadcastInDim S32768x1 ![0, 1] bcast_S1x1_S32768x1_0_1
      (broadcastInDim S1x1 ![1] bcast_S1_S1x1_1 (constantI S1 32 32767#32))))

/-- The take: where the index is in range the key there. -/
def taken (k : FVec F S32768 .f32) (i : IVec S32768 32) : FVec F S32768 .f32 :=
  select (Host.reduce IntOp.andi (within i) (constantI S_ 1 1#1) reducesTo_S32768x1_S32768_d1 h_S_)
    (Host.gather gather_S32768_S32768x1_S32768_n_0_n_n_0_1_1 k (starts i))
    (broadcastInDim S32768 ![] bcast_S_S32768 (constant S_ .f32 0x7FC00000#32))

/-- The comparison of the sort is the comparison of the keys. -/
theorem comparator_ideal (l r : Ideal .f32 × BitVec 32) :
    comparator_f32_i32_d0 (F := Ideal) l r = BitVec.ofBool (decide ((l.1 : EReal) < r.1)) := by
  have h : ∀ v : EReal, (if BitVec.ofBool (decide (v ≠ v)) = 1#1 then (Ideal.ofBits .f32 0x7FC00000#32 : EReal)
      else if BitVec.ofBool (decide (v = Ideal.ofBits .f32 0x00000000#32)) = 1#1 then (Ideal.ofBits .f32 0x00000000#32 : EReal) else v) = v := fun v => by
    rw [if_neg (by simp)]
    by_cases hv : v = Ideal.ofBits .f32 0x00000000#32
    · rw [if_pos (by simp [hv]), hv]
    · rw [if_neg (by rw [decide_eq_false hv]; decide)]
  exact congrArg₂ (fun u v : EReal => BitVec.ofBool (decide (u < v))) (h l.1) (h r.1)

/-- The words of small numbers are not negative and not too great. -/
theorem small_word (n : Nat) (hn : n < 32768) :
    IntOp.cmpi .slt (BitVec.ofNat 32 n) 0#32 = 0#1 ∧ IntOp.cmpi .sge (BitVec.ofNat 32 n) 0#32 = 1#1
      ∧ IntOp.cmpi .sle (BitVec.ofNat 32 n) 32767#32 = 1#1 := by
  have e : (BitVec.ofNat 32 n).toInt = (n : ℤ) := by
    rw [BitVec.toInt_eq_toNat_of_lt] <;> rw [BitVec.toNat_ofNat, Nat.mod_eq_of_lt (by omega)]
    omega
  have e0 : (0#32 : BitVec 32).toInt = 0 := by decide
  have e1 : (32767#32 : BitVec 32).toInt = 32767 := by decide
  refine ⟨?_, ?_, ?_⟩
  · show BitVec.ofBool (BitVec.slt _ _) = _
    rw [BitVec.slt_eq_decide, e, e0, decide_eq_false (by omega)]
    rfl
  · show BitVec.ofBool (BitVec.sle _ _) = _
    rw [BitVec.sle_eq_decide, e, e0, decide_eq_true (by omega)]
    rfl
  · show BitVec.ofBool (BitVec.sle _ _) = _
    rw [BitVec.sle_eq_decide, e, e1, decide_eq_true (by omega)]
    rfl

/-- The indices of a take by small words are those words. -/
theorem starts_at (i : IVec S32768 32) (t : Fin 32768 → Fin 32768)
    (hi : ∀ n, i (ValueIdx.ix1 n) = BitVec.ofNat 32 (t n).val) (n : Fin 32768) :
    starts i (ValueIdx.ix2 n (0 : Fin 1)) = BitVec.ofNat 32 (t n).val := by
  unfold starts
  rw [broadcastInDim_apply _ _ _ _ (ValueIdx.ix1 n) (fun a => by match a with | ⟨0, _⟩ => rfl)]
  show (if IntOp.cmpi .slt (i (ValueIdx.ix1 n)) 0#32 = 1#1 then _ else i (ValueIdx.ix1 n)) = _
  rw [hi, (small_word _ (t n).isLt).1, if_neg (by decide)]

/-- Small words lie in range. -/
theorem within_at (i : IVec S32768 32) (t : Fin 32768 → Fin 32768)
    (hi : ∀ n, i (ValueIdx.ix1 n) = BitVec.ofNat 32 (t n).val) (j : S32768x1.Idx) : within i j = 1#1 := by
  obtain ⟨n, rfl⟩ : ∃ n : Fin 32768, j = ValueIdx.ix2 n (0 : Fin 1) :=
    ⟨j 0, (ValueIdx.eq_ix2 j).trans (congrArg (ValueIdx.ix2 (j 0)) (Subsingleton.elim (α := Fin 1) _ _))⟩
  have e : within i (ValueIdx.ix2 n (0 : Fin 1)) = IntOp.andi (IntOp.cmpi .sge (starts i (ValueIdx.ix2 n (0 : Fin 1))) 0#32)
      (IntOp.cmpi .sle (starts i (ValueIdx.ix2 n (0 : Fin 1))) 32767#32) := rfl
  rw [e, starts_at i t hi, (small_word _ (t n).isLt).2.1, (small_word _ (t n).isLt).2.2]
  rfl

/-- A selection where its mask is set. -/
theorem select_here {s : Shape} {α : Type} (c : IVec s 1) (u v : s.Idx → α) (j : s.Idx) (h : c j = 1#1) : select c u v j = u j :=
  if_pos h

/-- The take by small words reads there. -/
theorem taken_at (k : FVec F S32768 .f32) (i : IVec S32768 32) (t : Fin 32768 → Fin 32768)
    (hi : ∀ n, i (ValueIdx.ix1 n) = BitVec.ofNat 32 (t n).val) (n : Fin 32768) :
    taken k i (ValueIdx.ix1 n) = k (ValueIdx.ix1 (t n)) := by
  have hm : Host.reduce IntOp.andi (within i) (constantI S_ 1 1#1) reducesTo_S32768x1_S32768_d1 h_S_ (ValueIdx.ix1 n) = 1#1 :=
    Host.reduce_andi_one _ _ _ _ _ rfl (within_at i t hi)
  have hg : Host.gather gather_S32768_S32768x1_S32768_n_0_n_n_0_1_1 k (starts i) (ValueIdx.ix1 n) = k (ValueIdx.ix1 (t n)) :=
    Routing.take_ap _ rfl rfl rfl rfl k (starts i) n (t n).isLt (by have := (t n).isLt; omega) (starts_at i t hi n)
  unfold taken
  exact (select_here _ _ _ _ hm).trans hg

/-- A sort that carries the positions along, at an index. -/
theorem sort2_iota {N : Nat} {α : Type} (cmp : α × BitVec 32 → α × BitVec 32 → BitVec 1) (k : (⟨1, ![N]⟩ : Shape).Idx → α)
    (n : Fin N) : (Host.sort2 ⟨1, ![N]⟩ 0 cmp k (iotaInDim ⟨1, ![N]⟩ 32 0)).2 (ValueIdx.ix1 n)
      = BitVec.ofNat 32 (sortedFrom (fun a b => cmp (k (ValueIdx.ix1 a), BitVec.ofNat 32 a.val)
          (k (ValueIdx.ix1 b), BitVec.ofNat 32 b.val) == 1#1) n).val := by
  have ea : ∀ m : Fin N, Shape.Idx.along (s := ⟨1, ![N]⟩) (ValueIdx.ix1 n) 0 m = ValueIdx.ix1 m := fun m => by
    funext a; match a with | ⟨0, _⟩ => rfl
  have er : (fun a b : Fin N => cmp (k (Shape.Idx.along (s := ⟨1, ![N]⟩) (ValueIdx.ix1 n) 0 a),
          iotaInDim ⟨1, ![N]⟩ 32 0 (Shape.Idx.along (s := ⟨1, ![N]⟩) (ValueIdx.ix1 n) 0 a))
        (k (Shape.Idx.along (s := ⟨1, ![N]⟩) (ValueIdx.ix1 n) 0 b),
          iotaInDim ⟨1, ![N]⟩ 32 0 (Shape.Idx.along (s := ⟨1, ![N]⟩) (ValueIdx.ix1 n) 0 b)) == 1#1)
      = fun a b => cmp (k (ValueIdx.ix1 a), BitVec.ofNat 32 a.val) (k (ValueIdx.ix1 b), BitVec.ofNat 32 b.val) == 1#1 := by
    funext a b
    rw [ea, ea]
    rfl
  exact congrArg (fun R : Fin N → Fin N → Bool => BitVec.ofNat 32 (sortedFrom R n).val) er

/-- The order at an index, where the keys are real. -/
theorem order_at (k : FVec Ideal S32768 .f32) (x : Fin 32768 → ℝ) (hk : ∀ n, k (ValueIdx.ix1 n) = ((x n : ℝ) : EReal))
    (n : Fin 32768) : order k (ValueIdx.ix1 n) = BitVec.ofNat 32 (sorted x n).val := by
  have er : (fun a b : Fin 32768 => comparator_f32_i32_d0 (F := Ideal)
      (k (ValueIdx.ix1 a), BitVec.ofNat 32 a.val) (k (ValueIdx.ix1 b), BitVec.ofNat 32 b.val) == 1#1)
        = fun a b => decide (x a < x b) := by
    funext a b
    rw [comparator_ideal, hk, hk]
    simp only [EReal.coe_lt_coe_iff]
    cases decide (x a < x b) <;> rfl
  unfold order sorted
  rw [sort2_iota, er]

/-- The first result as the reference's run states it. -/
theorem res_eq (m : (ℓ : Loc nD τ sig) → Buf (Elt F) ℓ) (c : Dev nD) :
    Cert.ReferenceIdeal.Value.res_main_v10 m c
      = (subf (taken (keys (m ((c.tc : Thread nD τ).loc main_arg0)) (m ((c.tc : Thread nD τ).loc main_arg1)))
          (order (keys (m ((c.tc : Thread nD τ).loc main_arg0)) (m ((c.tc : Thread nD τ).loc main_arg1)))))
        (shift (m ((c.tc : Thread nD τ).loc main_arg0)) (m ((c.tc : Thread nD τ).loc main_arg1))) : FVec F S32768 .f32) := rfl

end Cert.Own

end
-- ==== Proof.Host.lean ====
/-
  The kernel around its one region: the keys that @main hands to the network, and what @main's last lines make of the
  two arrays the network leaves.
-/
module

public import Idealize.ShloMosaic.Lib.StableHlo.Run
public import Idealize.ShloMosaic.Lib.Pipeline.ValueKit
public import proofs.«01_k».proof.Proof.Gen.KernelIdeal.Frame
public import proofs.«01_k».proof.Proof.Outputs
public import proofs.«01_k».proof.Proof.Reference

@[expose] public section

noncomputable section

namespace Cert.Own

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The first argument on core `c`. -/
abbrev inputs : FVec Ideal S32768 .f32 := m ((c.tc : Thread nD τ).loc main_arg0)

/-- The second argument on core `c`. -/
abbrev graphs : Vec Ideal S32768 .i32 := m ((c.tc : Thread nD τ).loc main_arg1)

/-- The shift that @main adds to the inputs. -/
theorem entry_shift : V m c main_v6 = shift (inputs m c) (graphs m c) := by
  show StableHlo.after (List.flatten [hostOps0]) (fun b => m (c, b)) (Proc.devRef .tc main_v6) = _
  simp only [hostOps0, List.flatten_cons, List.flatten_nil, List.append_nil]
  after_results_simp <;> rfl

/-- The keys, laid out in 256 rows: the block that the network reads. -/
def block : FVec Ideal S256x128 .f32 :=
  shapeCast S256x128 (keys (inputs m c) (graphs m c)) shapeCasts_S32768_S256x128

/-- The values the network leaves, transposed. -/
def ranked : FVec Ideal S128x256 .f32 :=
  transpose S128x256 [1, 0] (final (block m c)).1 transposes_S256x128_p1_0_S128x256

/-- The positions the network leaves, transposed, as integers. -/
def places : Vec Ideal S128x256 .i32 :=
  fptosi 32 (transpose S128x256 [1, 0] (final (block m c)).2 transposes_S256x128_p1_0_S128x256)

theorem entry_block : V m c main_v8 = block m c := by
  show StableHlo.after (List.flatten [hostOps0]) (fun b => m (c, b)) (Proc.devRef .tc main_v8) = _
  simp only [hostOps0, List.flatten_cons, List.flatten_nil, List.append_nil]
  after_results_simp <;> rfl

/-- The region's one point reads that block. -/
theorem block_read (t : Fin cfg0.N) : iblk m c 0 t = block m c := by
  obtain rfl := fin_N0 t
  rw [← entry_block]
  funext y
  show V m c main_v8 ((win0_0.rect t0_0).emb y) = V m c main_v8 y
  congr 1
  funext a
  apply Fin.ext
  exact win0_0.rect_emb_val_of_index_zero t0_0 a ((by decide +kernel : ∀ a, win0_0.index t0_0 a = 0) a) y

/-- What the one point leaves for the values. -/
theorem left_ranked : (dats m 0 c).after 1 t0_0 = ranked m c := by
  rw [after0_1]
  unfold outsAt0
  dsimp only
  rw [out_values, block_read]
  rfl

/-- What the one point leaves for the positions. -/
theorem left_places : (dats m 0 c).after 2 t0_0 = places m c := by
  rw [after0_2]
  unfold outsAt0
  dsimp only
  rw [out_positions, block_read]
  rfl

/-- The values the region leaves. -/
theorem region_values : (dats m 0 c).arrAt 1 cfg0.N = ranked m c := by
  refine (dats m 0 c).arrAt_eq_of_after_last 1 t0_0 (by decide +kernel) _ fun j => ?_
  exact congrFun (left_ranked m c) j

/-- The positions the region leaves. -/
theorem region_positions : (dats m 0 c).arrAt 2 cfg0.N = places m c := by
  refine (dats m 0 c).arrAt_eq_of_after_last 2 t0_0 (by decide +kernel) _ fun j => ?_
  exact congrFun (left_places m c) j

/-- The contents of the buffers when the region has ended. -/
abbrev left : Valuation τ sig (Elt Ideal) :=
  Pipeline.withArrays cfg0.spec c (V0 m c) fun w => (dats m 0 c).arrAt w cfg0.N

theorem left_values : left m c (Proc.devRef .tc main_v9_0) = ranked m c :=
  (Pipeline.withArrays_arr cfg0.spec (by decide) c (V0 m c) _ 1).trans (region_values m c)

theorem left_positions : left m c (Proc.devRef .tc main_v9_1) = places m c :=
  (Pipeline.withArrays_arr cfg0.spec (by decide) c (V0 m c) _ 2).trans (region_positions m c)

theorem left_shift : left m c (Proc.devRef .tc main_v6) = shift (inputs m c) (graphs m c) :=
  (Pipeline.withArrays_of_ne cfg0.spec c (V0 m c) _ main_v6 (by decide)).trans (entry_shift m c)

/-- The first result at the end of the run. -/
def sortedOut : FVec Ideal S32768 .f32 :=
  subf (shapeCast S32768 (ranked m c) shapeCasts_S128x256_S32768) (shift (inputs m c) (graphs m c))

/-- The second result at the end of the run. -/
def indexOut : Vec Ideal S32768 .i32 := shapeCast S32768 (places m c) shapeCasts_S128x256_S32768

theorem end_values : Pipeline.afterTail₀ cfgs (dats m) 0 (V0 m) [hostOps1] c main_v11 = sortedOut m c := by
  show StableHlo.after (List.flatten [hostOps1]) (left m c) (Proc.devRef .tc main_v11) = _
  unfold sortedOut
  rw [← left_values, ← left_shift]
  generalize left m c = X
  simp only [hostOps1, List.flatten_cons, List.flatten_nil, List.append_nil]
  after_results_simp <;> rfl

theorem end_positions : Pipeline.afterTail₀ cfgs (dats m) 0 (V0 m) [hostOps1] c main_v12 = indexOut m c := by
  show StableHlo.after (List.flatten [hostOps1]) (left m c) (Proc.devRef .tc main_v12) = _
  unfold indexOut
  rw [← left_positions]
  generalize left m c = X
  simp only [hostOps1, List.flatten_cons, List.flatten_nil, List.append_nil]
  after_results_simp <;> rfl

end Cert.Own
-- ==== Proof.Results.lean ====
/-
  The kernel's two results before the shift is taken away, at an index: the reference's.
-/
module

public import proofs.«01_k».proof.Proof.Stable
public import proofs.«01_k».proof.Proof.Gen.KernelIdeal
public import Idealize.ShloMosaic.Lib.ValueIdx
public import Idealize.ShloMosaic.Lib.Pipeline.Value

@[expose] public section

noncomputable section

namespace Cert.Own

open Idealize.ShloMosaic Idealize.SL.Sem Cert.KernelIdeal Cert.KernelIdeal.Facts₀

/-- The keys laid out in rows, at a position of the network. -/
theorem rows_cell {α : Type} (k : S32768.Idx → α) (p : Fin (2 ^ 15)) :
    shapeCast S256x128 k shapeCasts_S32768_S256x128 (cell p) = k (ValueIdx.ix1 (orig p)) := by
  refine shapeCast_apply k _ _ _ ?_
  rw [Shape.rowMajor_val_one, Shape.rowMajor_val_two]
  rfl

/-- The transposed array laid out flat, at an index, is the array at that position of the network. -/
theorem flat_cell {α : Type} (y : S256x128.Idx → α) (n : Fin 32768) :
    shapeCast S32768 (transpose S128x256 [1, 0] y transposes_S256x128_p1_0_S128x256) shapeCasts_S128x256_S32768 (ValueIdx.ix1 n)
      = y (cell n) := by
  have hn := n.isLt
  rw [shapeCast_apply _ _ _ (ValueIdx.ix2 (⟨n.val / 256, by omega⟩ : Fin 128) (⟨n.val % 256, Nat.mod_lt _ (by decide)⟩ : Fin 256)) (by
    rw [Shape.rowMajor_val_one, Shape.rowMajor_val_two]
    show n.val / 256 * 256 + n.val % 256 = n.val
    omega)]
  rw [Pointwise.transpose_apply, Shape.Idx.norm_def]
  refine congrArg y (funext fun a => Fin.ext ?_)
  match a with
  | ⟨0, _⟩ => rfl
  | ⟨1, _⟩ => rfl

/-- A small natural number turned into a word. -/
theorem word_of_nat (n : Nat) (hn : n < 32768) : Ideal.fptosi 32 (((n : ℕ) : ℝ) : EReal) = BitVec.ofNat 32 n := by
  have e : Ideal.toIntClamped (-(2 ^ (32 - 1) : Nat)) ((2 ^ (32 - 1) : Nat) - 1) (((n : ℕ) : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    norm_num
    omega
  unfold Ideal.fptosi
  rw [e]
  exact BitVec.ofInt_natCast 32 n

/-- Both results at an index: the sorted key, and where it came from. -/
theorem results_at {x : Fin 32768 → ℝ} (hx : Apart x) (k : FVec Ideal S32768 .f32)
    (hk : ∀ n, k (ValueIdx.ix1 n) = ((x n : ℝ) : EReal)) (n : Fin 32768) :
    shapeCast S32768 (transpose S128x256 [1, 0] (final (shapeCast S256x128 k shapeCasts_S32768_S256x128)).1
        transposes_S256x128_p1_0_S128x256) shapeCasts_S128x256_S32768 (ValueIdx.ix1 n) = k (ValueIdx.ix1 (sorted x n))
      ∧ shapeCast S32768 (fptosi 32 (transpose S128x256 [1, 0] (final (shapeCast S256x128 k shapeCasts_S32768_S256x128)).2
        transposes_S256x128_p1_0_S128x256)) shapeCasts_S128x256_S32768 (ValueIdx.ix1 n) = BitVec.ofNat 32 (sorted x n).val := by
  obtain ⟨g, hg, mg, ig⟩ := final_sorted hx (shapeCast S256x128 k shapeCasts_S32768_S256x128) fun p => by
    rw [rows_cell, hk]
  obtain rfl : g = sorted x := sorted_unique x g (sorted x) ig (sorted_injective x) mg (sorted_monotone x)
  constructor
  · rw [flat_cell, (hg n).1, hk]
  · have e : shapeCast S32768 (fptosi 32 (transpose S128x256 [1, 0] (final (shapeCast S256x128 k shapeCasts_S32768_S256x128)).2
        transposes_S256x128_p1_0_S128x256)) shapeCasts_S128x256_S32768 (ValueIdx.ix1 n)
        = Ideal.fptosi 32 (shapeCast S32768 (transpose S128x256 [1, 0] (final (shapeCast S256x128 k shapeCasts_S32768_S256x128)).2
        transposes_S256x128_p1_0_S128x256) shapeCasts_S128x256_S32768 (ValueIdx.ix1 n)) := rfl
    rw [e, flat_cell, (hg n).2]
    exact word_of_nat _ (sorted x n).isLt

end Cert.Own

end
-- ==== Proof.Meet.lean ====
/-
  The kernel's two results are the reference's: the values in ascending order with the shift taken off again, and the
  places they come from.
-/
module

public import proofs.«01_k».proof.Proof.Host
public import proofs.«01_k».proof.Proof.Results

@[expose] public section

noncomputable section

namespace Cert.Own

open Idealize.ShloMosaic Idealize.ShloMosaic.TcCoe Idealize.SL.Sem
open Cert.KernelIdeal Cert.KernelIdeal.Gen

/-- Two lists that agree at every place are equal. -/
theorem list_ext {α : Type} {N : Nat} {u v : (⟨1, ![N]⟩ : Shape).Idx → α}
    (h : ∀ n, u (ValueIdx.ix1 n) = v (ValueIdx.ix1 n)) : u = v := by
  funext i
  rw [ValueIdx.eq_ix1 i]
  exact h _

variable (m : (ℓ : Loc nD τ sig) → Buf (Elt Ideal) ℓ) (c : Dev nD) {x : Fin 32768 → ℝ}
  (hk : ∀ n, keys (inputs m c) (graphs m c) (ValueIdx.ix1 n) = ((x n : ℝ) : EReal)) (hx : Apart x)

include hk hx

/-- The ordered keys, as the kernel and as the reference find them. -/
theorem ordered_eq : (shapeCast S32768 (ranked m c) shapeCasts_S128x256_S32768 : FVec Ideal S32768 .f32)
    = taken (keys (inputs m c) (graphs m c)) (order (keys (inputs m c) (graphs m c))) := by
  refine list_ext fun n => ?_
  rw [taken_at _ _ (sorted x) (order_at _ x hk)]
  exact (results_at hx _ hk n).1

/-- The first result. -/
theorem values_meet : sortedOut m c
    = (subf (taken (keys (inputs m c) (graphs m c)) (order (keys (inputs m c) (graphs m c))))
        (shift (inputs m c) (graphs m c)) : FVec Ideal S32768 .f32) := by
  unfold sortedOut
  rw [ordered_eq m c hk hx]

/-- The second result. -/
theorem indices_meet : indexOut m c = order (keys (inputs m c) (graphs m c)) := by
  refine list_ext fun n => ?_
  rw [order_at _ x hk]
  exact (results_at hx _ hk n).2

end Cert.Own

end
-- ==== Proof.Pre.lean ====
/-
  What the precondition says of the keys: each is a real number, and two that differ differ by at least `gap`.
-/
module

public import proofs.«01_k».proof.Defs
public import proofs.«01_k».proof.Proof.Gen.Pre_separated
public import proofs.«01_k».proof.Proof.Order
public import proofs.«01_k».proof.Proof.Reference
public import Idealize.ShloMosaic.Lib.Pointwise

@[expose] public section

noncomputable section

namespace Cert.Own

open Idealize.ShloMosaic Idealize.SL.Sem
open Cert.Pre_separated Cert.Pre_separated.Gen

theorem ofBits_top : Ideal.ofBits .f32 0x7F800000#32 = (⊤ : EReal) := by simp [Ideal.ofBits, Ideal.ieee]

theorem ofBits_bot : Ideal.ofBits .f32 0xFF800000#32 = (⊥ : EReal) := by simp [Ideal.ofBits, Ideal.ieee]

variable (a : FVec Ideal S32768 .f32) (b : IVec S32768 32)

/-- A list laid down the rows of a square, read at an element. -/
theorem down_rows {α : Type} {N : Nat} (h₁ : (⟨1, ![N]⟩ : Shape).BroadcastsInDim ⟨2, ![N, 1]⟩ ![0])
    (h₂ : (⟨2, ![N, 1]⟩ : Shape).BroadcastsInDim ⟨2, ![N, N]⟩ ![0, 1]) (x : (⟨1, ![N]⟩ : Shape).Idx → α) (i j : Fin N) :
    broadcastInDim ⟨2, ![N, N]⟩ ![0, 1] h₂ (broadcastInDim ⟨2, ![N, 1]⟩ ![0] h₁ x) (ValueIdx.ix2 i j)
      = x (ValueIdx.ix1 i) := by
  rw [broadcastInDim_apply ![0, 1] h₂ _ (ValueIdx.ix2 i j) (ValueIdx.ix2 i (0 : Fin 1)) ?_,
    broadcastInDim_apply ![0] h₁ x (ValueIdx.ix2 i (0 : Fin 1)) (ValueIdx.ix1 i) ?_]
  · intro a
    fin_cases a
    show i.val = if N = 1 then 0 else i.val
    split <;> omega
  · intro a
    fin_cases a
    · show i.val = if N = 1 then 0 else i.val
      split <;> omega
    · rfl

/-- A list laid along the columns of a square, read at an element. -/
theorem along_columns {α : Type} {N : Nat} (h₁ : (⟨1, ![N]⟩ : Shape).BroadcastsInDim ⟨2, ![1, N]⟩ ![1])
    (h₂ : (⟨2, ![1, N]⟩ : Shape).BroadcastsInDim ⟨2, ![N, N]⟩ ![0, 1]) (x : (⟨1, ![N]⟩ : Shape).Idx → α) (i j : Fin N) :
    broadcastInDim ⟨2, ![N, N]⟩ ![0, 1] h₂ (broadcastInDim ⟨2, ![1, N]⟩ ![1] h₁ x) (ValueIdx.ix2 i j)
      = x (ValueIdx.ix1 j) := by
  rw [broadcastInDim_apply ![0, 1] h₂ _ (ValueIdx.ix2 i j) (ValueIdx.ix2 (0 : Fin 1) j) ?_,
    broadcastInDim_apply ![1] h₁ x (ValueIdx.ix2 (0 : Fin 1) j) (ValueIdx.ix1 j) ?_]
  · intro a
    fin_cases a
    show j.val = if N = 1 then 0 else j.val
    split <;> omega
  · intro a
    fin_cases a
    · rfl
    · show j.val = if N = 1 then 0 else j.val
      split <;> omega

/-- Two one-bit words, both one. -/
theorem both_one (p q : Prop) [Decidable p] [Decidable q]
    (h : IntOp.andi (BitVec.ofBool (decide p)) (BitVec.ofBool (decide q)) = 1#1) : p ∧ q := by
  by_cases hp : p <;> by_cases hq : q <;> simp_all [IntOp.andi]

/-- Two one-bit words, not both zero. -/
theorem some_one (p q : Prop) [Decidable p] [Decidable q]
    (h : IntOp.ori (BitVec.ofBool (decide p)) (BitVec.ofBool (decide q)) = 1#1) : p ∨ q := by
  by_cases hp : p <;> by_cases hq : q <;> simp_all [IntOp.ori]

/-- The first part of the precondition at one key. -/
theorem finite_of (h : (Cert.Pre_separated.fn (F := Ideal) a b).1 = fun _ => 1#1) (n : Fin 32768) :
    keys a b (ValueIdx.ix1 n) < (⊤ : EReal) ∧ (⊥ : EReal) < keys a b (ValueIdx.ix1 n) := by
  have e := congrFun h (ValueIdx.ix1 n)
  change IntOp.andi (FloatOps.cmpf .olt (keys a b (ValueIdx.ix1 n)) (Ideal.ofBits .f32 0x7F800000#32))
    (FloatOps.cmpf .ogt (keys a b (ValueIdx.ix1 n)) (Ideal.ofBits .f32 0xFF800000#32)) = 1#1 at e
  rw [ofBits_top, ofBits_bot] at e
  exact both_one _ _ e

/-- The second part of the precondition at two keys. -/
theorem apart_of (h : (Cert.Pre_separated.fn (F := Ideal) a b).2 = fun _ => 1#1) (i j : Fin 32768) :
    keys a b (ValueIdx.ix1 i) - keys a b (ValueIdx.ix1 j) ≤ (0 : EReal)
      ∨ ((gap : ℝ) : EReal) ≤ keys a b (ValueIdx.ix1 i) - keys a b (ValueIdx.ix1 j) := by
  have e := congrFun h (ValueIdx.ix2 i j)
  change IntOp.ori
    (FloatOps.cmpf .ole (FloatOps.subf
        (broadcastInDim S32768x32768 ![0, 1] bcast_S32768x1_S32768x32768_0_1
          (broadcastInDim S32768x1 ![0] bcast_S32768_S32768x1_0 (keys a b)) (ValueIdx.ix2 i j))
        (broadcastInDim S32768x32768 ![0, 1] bcast_S1x32768_S32768x32768_0_1
          (broadcastInDim S1x32768 ![1] bcast_S32768_S1x32768_1 (keys a b)) (ValueIdx.ix2 i j)))
      (Ideal.ofBits .f32 0x00000000#32))
    (FloatOps.cmpf .oge (FloatOps.subf
        (broadcastInDim S32768x32768 ![0, 1] bcast_S32768x1_S32768x32768_0_1
          (broadcastInDim S32768x1 ![0] bcast_S32768_S32768x1_0 (keys a b)) (ValueIdx.ix2 i j))
        (broadcastInDim S32768x32768 ![0, 1] bcast_S1x32768_S32768x32768_0_1
          (broadcastInDim S1x32768 ![1] bcast_S32768_S1x32768_1 (keys a b)) (ValueIdx.ix2 i j)))
      (Ideal.ofBits .f32 0x00800000#32)) = 1#1 at e
  rw [down_rows, along_columns, ofBits_none, ofBits_gap] at e
  exact some_one _ _ e

/-- Under the precondition the keys are real numbers that stand apart. -/
theorem keys_real (h : (Cert.Pre_separated.fn (F := Ideal) a b).1 = (fun _ => 1#1)
      ∧ (Cert.Pre_separated.fn (F := Ideal) a b).2 = fun _ => 1#1) :
    ∃ x : Fin 32768 → ℝ, (∀ n, keys a b (ValueIdx.ix1 n) = ((x n : ℝ) : EReal)) ∧ Apart x := by
  have hk (n : Fin 32768) : keys a b (ValueIdx.ix1 n) = (((keys a b (ValueIdx.ix1 n) : EReal).toReal : ℝ) : EReal) :=
    (EReal.coe_toReal (finite_of a b h.1 n).1.ne (finite_of a b h.1 n).2.ne').symm
  refine ⟨fun n => (keys a b (ValueIdx.ix1 n) : EReal).toReal, hk, fun i j => ?_⟩
  have e := apart_of a b h.2 i j
  rw [hk i, hk j, ← EReal.coe_sub] at e
  exact e.imp (fun e => by exact_mod_cast e) fun e => by exact_mod_cast e

end Cert.Own
-- ==== Proof.lean ====
/-
  The proof of `Cert.Claim`: the two programs of the kernel and the reference run to their ends, leave their arguments
  as they were and every counter at zero; the idealization rewrote nothing; and, read over the real numbers, the
  kernel and the reference end with equal results where the keys stand apart.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_separated
public import proofs.«01_k».proof.Proof.Meet
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The reference's run, read at its arguments; it declares no semaphore. -/
theorem frame_r : Cert.quiescent_ReferenceIdeal := fun m ρ _ =>
  (θ_run Cert.ReferenceIdeal.defs _ _).mono (fun r h => ⟨fun c => ⟨(h c).2.2.1, (h c).2.2.2⟩,
    sem_eq_zero_of_no_sems (by decide) r.2⟩) (Cert.ReferenceIdeal.Value.run m ρ)

/-- The kernel's run, read at its two results and its arguments. -/
theorem run_k (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v11) = Cert.Own.sortedOut m c
        ∧ r.2.mem ((c.tc : Thread Cert.KernelIdeal.nD Cert.KernelIdeal.τ).loc Cert.KernelIdeal.main_v12) = Cert.Own.indexOut m c
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1) :=
  (θ_run Cert.KernelIdeal.defs _ _).mono (fun _ h c =>
    ⟨((h c).2 Cert.KernelIdeal.main_v11 (Pipeline.mem_restRefs_of _ (by decide) (by decide))).trans (Cert.Own.end_values m c),
      ((h c).2 Cert.KernelIdeal.main_v12 (Pipeline.mem_restRefs_of _ (by decide) (by decide))).trans (Cert.Own.end_positions m c),
      ((h c).2 Cert.KernelIdeal.main_arg0 (Pipeline.mem_restRefs_of _ (by decide) (by decide))).trans
        (Cert.KernelIdeal.Gen.W_main_arg0 m (Cert.KernelIdeal.Gen.dats m) c),
      ((h c).2 Cert.KernelIdeal.main_arg1 (Pipeline.mem_restRefs_of _ (by decide) (by decide))).trans
        (Cert.KernelIdeal.Gen.W_main_arg1 m (Cert.KernelIdeal.Gen.dats m) c)⟩) (Cert.KernelIdeal.Gen.run_main m ρ)

/-- The two results of the kernel are the reference's. -/
theorem equal_results : Cert.algebraic_KernelIdeal_ReferenceIdeal_pre_separated := by
  intro m ρ m' ρ' hpre hagree
  refine ⟨fun c => Cert.Own.sortedOut m c, fun c => Cert.Own.indexOut m c, run_k m ρ, ?_⟩
  refine (θ_run Cert.ReferenceIdeal.defs _ _).mono (fun r h c => ?_) (Cert.ReferenceIdeal.Value.run m' ρ')
  obtain ⟨x, hk, hx⟩ := Cert.Own.keys_real _ _ (hpre c)
  refine ⟨(h c).1.trans ?_, (h c).2.1.trans ?_, (h c).2.2⟩
  · rw [Cert.Own.res_eq, (hagree c).1, (hagree c).2]
    exact (Cert.Own.values_meet m c hk hx).symm
  · rw [(hagree c).1, (hagree c).2]
    exact (Cert.Own.indices_meet m c hk hx).symm

theorem claim : Cert.Claim :=
  ⟨Cert.Kernel.Gen.facts, Cert.KernelIdeal.Gen.facts, Cert.ReferenceIdeal.Gen.facts, Cert.Pre_separated.Gen.facts,
    fun m ρ _ => Cert.Kernel.Gen.frame m ρ, fun m ρ _ => Cert.KernelIdeal.Gen.frame m ρ,
    fun m ρ _ => Cert.KernelIdeal.Gen.frame m ρ, frame_r, fun m ρ _ => frame_r m ρ trivial, trivial, equal_results⟩

end Cert.Proof

end
